-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S1x128x12288 : Shape := ⟨3, ![1, 128, 12288]⟩
abbrev S6144x24576 : Shape := ⟨2, ![6144, 24576]⟩
abbrev S96x24576 : Shape := ⟨2, ![96, 24576]⟩
abbrev S_ : Shape := ⟨0, ![]⟩

class Facts : Prop where
  bcast_S_S1x128x12288 : S_.BroadcastsInDim S1x128x12288 (![] : Fin 0 → Fin S1x128x12288.rank)
  reducesTo_S1x128x12288_S_d0_1_2 : S1x128x12288.ReducesTo [0, 1, 2] S_
  h_S_ : 0 < S_.numel
  bcast_S_S96x24576 : S_.BroadcastsInDim S96x24576 (![] : Fin 0 → Fin S96x24576.rank)
  reducesTo_S96x24576_S_d0_1 : S96x24576.ReducesTo [0, 1] S_

variable [Facts]

def fn {F : FTy → Type} [FloatOps F] (main_arg0 : FVec F S1x128x12288 .bf16) (main_arg1 : IVec S6144x24576 8) (main_arg2 : FVec F S96x24576 .bf16) (main_arg3 : IVec S6144x24576 8) (main_arg4 : FVec F S96x24576 .bf16) : IVec S_ 1 :=
  let main_v0 : FVec F S1x128x12288 .bf16 := Host.absf main_arg0
  let main_cst : FVec F S_ .bf16 := constant S_ .bf16 0x4C00#16
  let main_v1 : FVec F S1x128x12288 .bf16 := broadcastInDim S1x128x12288 ![] bcast_S_S1x128x12288 main_cst
  let main_v2 : IVec S1x128x12288 1 := cmpf .ole main_v0 main_v1
  let main_c : IVec S_ 1 := constantI S_ 1 1#1
  let main_v3 : IVec S_ 1 := (fun x v => Host.reduce IntOp.andi x v reducesTo_S1x128x12288_S_d0_1_2 h_S_) main_v2 main_c
  let main_v4 : FVec F S96x24576 .bf16 := Host.absf main_arg2
  let main_cst_0 : FVec F S_ .bf16 := constant S_ .bf16 0x4C00#16
  let main_v5 : FVec F S96x24576 .bf16 := broadcastInDim S96x24576 ![] bcast_S_S96x24576 main_cst_0
  let main_v6 : IVec S96x24576 1 := cmpf .ole main_v4 main_v5
  let main_c_1 : IVec S_ 1 := constantI S_ 1 1#1
  let main_v7 : IVec S_ 1 := (fun x v => Host.reduce IntOp.andi x v reducesTo_S96x24576_S_d0_1 h_S_) main_v6 main_c_1
  let main_v8 : IVec S_ 1 := andi main_v3 main_v7
  let main_v9 : FVec F S96x24576 .bf16 := Host.absf main_arg4
  let main_cst_2 : FVec F S_ .bf16 := constant S_ .bf16 0x4C00#16
  let main_v10 : FVec F S96x24576 .bf16 := broadcastInDim S96x24576 ![] bcast_S_S96x24576 main_cst_2
  let main_v11 : IVec S96x24576 1 := cmpf .ole main_v9 main_v10
  let main_c_3 : IVec S_ 1 := constantI S_ 1 1#1
  let main_v12 : IVec S_ 1 := (fun x v => Host.reduce IntOp.andi x v reducesTo_S96x24576_S_d0_1 h_S_) main_v11 main_c_3
  let main_v13 : IVec S_ 1 := andi main_v8 main_v12
  main_v13
-- ==== Kernel.lean ====
abbrev S1x128x12288 : Shape := ⟨3, ![1, 128, 12288]⟩
abbrev S6144x24576 : Shape := ⟨2, ![6144, 24576]⟩
abbrev S96x24576 : Shape := ⟨2, ![96, 24576]⟩
abbrev S128x12288 : Shape := ⟨2, ![128, 12288]⟩
abbrev S128x24576 : Shape := ⟨2, ![128, 24576]⟩
abbrev S96x128x2 : Shape := ⟨3, ![96, 128, 2]⟩
abbrev S6144x256 : Shape := ⟨2, ![6144, 256]⟩
abbrev S96x256 : Shape := ⟨2, ![96, 256]⟩
abbrev S128x256 : Shape := ⟨2, ![128, 256]⟩
abbrev S1x128x2 : Shape := ⟨3, ![1, 128, 2]⟩
abbrev S128x1024 : Shape := ⟨2, ![128, 1024]⟩
abbrev S512x256 : Shape := ⟨2, ![512, 256]⟩
abbrev S128x8x256 : Shape := ⟨3, ![128, 8, 256]⟩
abbrev S128x1x256 : Shape := ⟨3, ![128, 1, 256]⟩
abbrev S1024x256 : Shape := ⟨2, ![1024, 256]⟩
abbrev S1x256 : Shape := ⟨2, ![1, 256]⟩
abbrev S128x128 : Shape := ⟨2, ![128, 128]⟩
abbrev S128 : Shape := ⟨1, ![128]⟩
abbrev S128x1 : Shape := ⟨2, ![128, 1]⟩
abbrev S1x128x1 : Shape := ⟨3, ![1, 128, 1]⟩
abbrev S128x96x2 : Shape := ⟨3, ![128, 96, 2]⟩
abbrev S1x128x192 : Shape := ⟨3, ![1, 128, 192]⟩
abbrev S1x128x24576 : Shape := ⟨3, ![1, 128, 24576]⟩

abbrev nBuf : Space → Nat
  | .hbm => 11
  | .vmem => 13
  | .smem => 0
  | _ => 0

abbrev bufTy : (tb : Table) → Fin (tcTables nBuf tb) → BufTy
  | .hbm, ⟨0, _⟩ => ⟨S1x128x12288, .bf16⟩
  | .hbm, ⟨1, _⟩ => ⟨S6144x24576, .i8⟩
  | .hbm, ⟨2, _⟩ => ⟨S96x24576, .bf16⟩
  | .hbm, ⟨3, _⟩ => ⟨S6144x24576, .i8⟩
  | .hbm, ⟨4, _⟩ => ⟨S96x24576, .bf16⟩
  | .hbm, ⟨5, _⟩ => ⟨S128x12288, .bf16⟩
  | .hbm, ⟨6, _⟩ => ⟨S128x24576, .fp8e4m3⟩
  | .hbm, ⟨7, _⟩ => ⟨S96x128x2, .f32⟩
  | .hbm, ⟨8, _⟩ => ⟨S128x96x2, .f32⟩
  | .hbm, ⟨9, _⟩ => ⟨S1x128x192, .f32⟩
  | .hbm, ⟨10, _⟩ => ⟨S1x128x24576, .fp8e4m3⟩
  | .local _ .vmem, ⟨0, _⟩ => ⟨S128x12288, .bf16⟩
  | .local _ .vmem, ⟨1, _⟩ => ⟨S6144x256, .i8⟩
  | .local _ .vmem, ⟨2, _⟩ => ⟨S6144x256, .i8⟩
  | .local _ .vmem, ⟨3, _⟩ => ⟨S96x256, .bf16⟩
  | .local _ .vmem, ⟨4, _⟩ => ⟨S96x256, .bf16⟩
  | .local _ .vmem, ⟨5, _⟩ => ⟨S6144x256, .i8⟩
  | .local _ .vmem, ⟨6, _⟩ => ⟨S6144x256, .i8⟩
  | .local _ .vmem, ⟨7, _⟩ => ⟨S96x256, .bf16⟩
  | .local _ .vmem, ⟨8, _⟩ => ⟨S96x256, .bf16⟩
  | .local _ .vmem, ⟨9, _⟩ => ⟨S128x256, .fp8e4m3⟩
  | .local _ .vmem, ⟨10, _⟩ => ⟨S128x256, .fp8e4m3⟩
  | .local _ .vmem, ⟨11, _⟩ => ⟨S1x128x2, .f32⟩
  | .local _ .vmem, ⟨12, _⟩ => ⟨S1x128x2, .f32⟩
  | _, _ => ⟨S1x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6144x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x128x12288 : Shape := ⟨3, ![1, 128, 12288]⟩
abbrev S6144x24576 : Shape := ⟨2, ![6144, 24576]⟩
abbrev S96x24576 : Shape := ⟨2, ![96, 24576]⟩
abbrev S1x128x6144 : Shape := ⟨3, ![1, 128, 6144]⟩
abbrev S96x64x24576 : Shape := ⟨3, ![96, 64, 24576]⟩
abbrev S_ : Shape := ⟨0, ![]⟩
abbrev S1x128x24576 : Shape := ⟨3, ![1, 128, 24576]⟩
abbrev S1x128x192x128 : Shape := ⟨4, ![1, 128, 192, 128]⟩
abbrev S1x128x192 : Shape := ⟨3, ![1, 128, 192]⟩
abbrev S254 : Shape := ⟨1, ![254]⟩
abbrev S1x128x192x1 : Shape := ⟨4, ![1, 128, 192, 1]⟩
abbrev S1x1x1x254 : Shape := ⟨4, ![1, 1, 1, 254]⟩
abbrev S1x128x192x254 : Shape := ⟨4, ![1, 128, 192, 254]⟩

abbrev nBuf : Space → Nat
  | .hbm => 116
  | .vmem => 2
  | .smem => 0
  | _ => 0

abbrev bufTy : (tb : Table) → Fin (tcTables nBuf tb) → BufTy
  | .hbm, ⟨0, _⟩ => ⟨S1x128x12288, .bf16⟩
  | .hbm, ⟨1, _⟩ => ⟨S6144x24576, .i8⟩
  | .hbm, ⟨2, _⟩ => ⟨S96x24576, .bf16⟩
  | .hbm, ⟨3, _⟩ => ⟨S6144x24576, .i8⟩
  | .hbm, ⟨4, _⟩ => ⟨S96x24576, .bf16⟩
  | .hbm, ⟨5, _⟩ => ⟨S1x128x6144, .bf16⟩
  | .hbm, ⟨6, _⟩ => ⟨S1x128x6144, .bf16⟩
  | .hbm, ⟨7, _⟩ => ⟨S96x64x24576, .bf16⟩
  | .hbm, ⟨8, _⟩ => ⟨S6144x24576, .bf16⟩
  | .hbm, ⟨9, _⟩ => ⟨S6144x24576, .i32⟩
  | .hbm, ⟨10, _⟩ => ⟨S_, .i32⟩
  | .hbm, ⟨11, _⟩ => ⟨S6144x24576, .i32⟩
  | .hbm, ⟨12, _⟩ => ⟨S6144x24576, .i32⟩
  | .hbm, ⟨13, _⟩ => ⟨S6144x24576, .bf16⟩
  | .hbm, ⟨14, _⟩ => ⟨S_, .bf16⟩
  | .hbm, ⟨15, _⟩ => ⟨S6144x24576, .bf16⟩
  | .hbm, ⟨16, _⟩ => ⟨S6144x24576, .bf16⟩
  | .hbm, ⟨17, _⟩ => ⟨S6144x24576, .bf16⟩
  | .hbm, ⟨18, _⟩ => ⟨S6144x24576, .i32⟩
  | .hbm, ⟨19, _⟩ => ⟨S_, .i32⟩
  | .hbm, ⟨20, _⟩ => ⟨S6144x24576, .i32⟩
  | .hbm, ⟨21, _⟩ => ⟨S6144x24576, .i32⟩
  | .hbm, ⟨22, _⟩ => ⟨S6144x24576, .bf16⟩
  | .hbm, ⟨23, _⟩ => ⟨S_, .bf16⟩
  | .hbm, ⟨24, _⟩ => ⟨S6144x24576, .bf16⟩
  | .hbm, ⟨25, _⟩ => ⟨S6144x24576, .bf16⟩
  | .hbm, ⟨26, _⟩ => ⟨S6144x24576, .bf16⟩
  | .hbm, ⟨27, _⟩ => ⟨S1x128x24576, .f32⟩
  | .hbm, ⟨28, _⟩ => ⟨S1x128x24576, .f32⟩
  | .hbm, ⟨29, _⟩ => ⟨S1x128x24576, .f32⟩
  | .hbm, ⟨30, _⟩ => ⟨S96x64x24576, .bf16⟩
  | .hbm, ⟨31, _⟩ => ⟨S6144x24576, .bf16⟩
  | .hbm, ⟨32, _⟩ => ⟨S6144x24576, .i32⟩
  | .hbm, ⟨33, _⟩ => ⟨S_, .i32⟩
  | .hbm, ⟨34, _⟩ => ⟨S6144x24576, .i32⟩
  | .hbm, ⟨35, _⟩ => ⟨S6144x24576, .i32⟩
  | .hbm, ⟨36, _⟩ => ⟨S6144x24576, .bf16⟩
  | .hbm, ⟨37, _⟩ => ⟨S_, .bf16⟩
  | .hbm, ⟨38, _⟩ => ⟨S6144x24576, .bf16⟩
  | .hbm, ⟨39, _⟩ => ⟨S6144x24576, .bf16⟩
  | .hbm, ⟨40, _⟩ => ⟨S6144x24576, .bf16⟩
  | .hbm, ⟨41, _⟩ => ⟨S6144x24576, .i32⟩
  | .hbm, ⟨42, _⟩ => ⟨S_, .i32⟩
  | .hbm, ⟨43, _⟩ => ⟨S6144x24576, .i32⟩
  | .hbm, ⟨44, _⟩ => ⟨S6144x24576, .i32⟩
  | .hbm, ⟨45, _⟩ => ⟨S6144x24576, .bf16⟩
  | .hbm, ⟨46, _⟩ => ⟨S_, .bf16⟩
  | .hbm, ⟨47, _⟩ => ⟨S6144x24576, .bf16⟩
  | .hbm, ⟨48, _⟩ => ⟨S6144x24576, .bf16⟩
  | .hbm, ⟨49, _⟩ => ⟨S6144x24576, .bf16⟩
  | .hbm, ⟨50, _⟩ => ⟨S1x128x24576, .f32⟩
  | .hbm, ⟨51, _⟩ => ⟨S1x128x24576, .f32⟩
  | .hbm, ⟨52, _⟩ => ⟨S1x128x24576, .f32⟩
  | .hbm, ⟨53, _⟩ => ⟨S1x128x24576, .f32⟩
  | .hbm, ⟨54, _⟩ => ⟨S1x128x24576, .f32⟩
  | .hbm, ⟨55, _⟩ => ⟨S_, .f32⟩
  | .hbm, ⟨56, _⟩ => ⟨S1x128x24576, .f32⟩
  | .hbm, ⟨57, _⟩ => ⟨S1x128x24576, .f32⟩
  | .hbm, ⟨58, _⟩ => ⟨S_, .f32⟩
  | .hbm, ⟨59, _⟩ => ⟨S1x128x24576, .f32⟩
  | .hbm, ⟨60, _⟩ => ⟨S1x128x24576, .f32⟩
  | .hbm, ⟨61, _⟩ => ⟨S1x128x24576, .f32⟩
  | .hbm, ⟨62, _⟩ => ⟨S1x128x24576, .f32⟩
  | .hbm, ⟨63, _⟩ => ⟨S1x128x192x128, .f32⟩
  | .hbm, ⟨64, _⟩ => ⟨S1x128x192x128, .f32⟩
  | .hbm, ⟨65, _⟩ => ⟨S_, .f32⟩
  | .hbm, ⟨66, _⟩ => ⟨S1x128x192, .f32⟩
  | .hbm, ⟨67, _⟩ => ⟨S_, .f32⟩
  | .hbm, ⟨68, _⟩ => ⟨S1x128x192, .f32⟩
  | .hbm, ⟨69, _⟩ => ⟨S1x128x192, .f32⟩
  | .hbm, ⟨70, _⟩ => ⟨S254, .f32⟩
  | .hbm, ⟨71, _⟩ => ⟨S_, .f32⟩
  | .hbm, ⟨72, _⟩ => ⟨S254, .f32⟩
  | .hbm, ⟨73, _⟩ => ⟨S254, .f32⟩
  | .hbm, ⟨74, _⟩ => ⟨S1x128x192x1, .f32⟩
  | .hbm, ⟨75, _⟩ => ⟨S_, .f32⟩
  | .hbm, ⟨76, _⟩ => ⟨S254, .f32⟩
  | .hbm, ⟨77, _⟩ => ⟨S254, .f32⟩
  | .hbm, ⟨78, _⟩ => ⟨S1x1x1x254, .f32⟩
  | .hbm, ⟨79, _⟩ => ⟨S1x128x192x254, .f32⟩
  | .hbm, ⟨80, _⟩ => ⟨S1x128x192x254, .f32⟩
  | .hbm, ⟨81, _⟩ => ⟨S1x128x192x254, .i1⟩
  | .hbm, ⟨82, _⟩ => ⟨S_, .f32⟩
  | .hbm, ⟨83, _⟩ => ⟨S_, .f32⟩
  | .hbm, ⟨84, _⟩ => ⟨S1x128x192x254, .f32⟩
  | .hbm, ⟨85, _⟩ => ⟨S1x128x192x254, .f32⟩
  | .hbm, ⟨86, _⟩ => ⟨S1x128x192x254, .f32⟩
  | .hbm, ⟨87, _⟩ => ⟨S_, .f32⟩
  | .hbm, ⟨88, _⟩ => ⟨S1x128x192, .f32⟩
  | .hbm, ⟨89, _⟩ => ⟨S_, .f32⟩
  | .hbm, ⟨90, _⟩ => ⟨S1x128x192, .f32⟩
  | .hbm, ⟨91, _⟩ => ⟨S1x128x192, .i1⟩
  | .hbm, ⟨92, _⟩ => ⟨S_, .f32⟩
  | .hbm, ⟨93, _⟩ => ⟨S_, .f32⟩
  | .hbm, ⟨94, _⟩ => ⟨S1x128x192, .f32⟩
  | .hbm, ⟨95, _⟩ => ⟨S1x128x192, .f32⟩
  | .hbm, ⟨96, _⟩ => ⟨S_, .f32⟩
  | .hbm, ⟨97, _⟩ => ⟨S1x128x192, .f32⟩
  | .hbm, ⟨98, _⟩ => ⟨S1x128x192, .f32⟩
  | .hbm, ⟨99, _⟩ => ⟨S1x128x192, .f32⟩
  | .hbm, ⟨100, _⟩ => ⟨S_, .f32⟩
  | .hbm, ⟨101, _⟩ => ⟨S1x128x192, .f32⟩
  | .hbm, ⟨102, _⟩ => ⟨S1x128x192, .f32⟩
  | .hbm, ⟨103, _⟩ => ⟨S1x128x192x1, .f32⟩
  | .hbm, ⟨104, _⟩ => ⟨S1x128x192x128, .f32⟩
  | .hbm, ⟨105, _⟩ => ⟨S1x128x192x128, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S1x128x192x128, .f32⟩
  | .hbm, ⟨110, _⟩ => ⟨S1x128x192x128, .f32⟩
  | .hbm, ⟨111, _⟩ => ⟨S_, .f32⟩
  | .hbm, ⟨112, _⟩ => ⟨S1x128x192x128, .f32⟩
  | .hbm, ⟨113, _⟩ => ⟨S1x128x192x128, .f32⟩
  | .hbm, ⟨114, _⟩ => ⟨S1x128x192x128, .fp8e4m3⟩
  | .hbm, ⟨115, _⟩ => ⟨S1x128x24576, .fp8e4m3⟩
  | .local _ .vmem, ⟨0, _⟩ => ⟨S1x128x192x128, .f32⟩
  | .local _ .vmem, ⟨1, _⟩ => ⟨S1x128x192x128, .fp8e4m3⟩
  | _, _ => ⟨S1x128x12288, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_16 : Ref sig .tc := ⟨.hbm, 106, rfl⟩
abbrev main_cst_17 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x128x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x192x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.RefRead.lean ====
/- The reference program, one host operation at a time: `val_<buffer>` is the value an operation writes, as a function of the
   arguments it depends on, and `val_<buffer>_apply` reads it at an index from its operands. The two projections are the same
   function of different arguments, so the second has no lemmas of its own: it is `val_main_v20` of the up weights. -/
module

public import proofs.«01_k».proof.Proof.Gen.ReferenceIdeal.Frame
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg0 [0:1, 0:128, 0:12288:2] : (tensor<1x128x12288xbf16>) -> tensor<1x128x6144xbf16>
def val_main_v0 (x0 : (⟨S1x128x12288, .bf16⟩ : BufTy).Contents (Elt F)) : (⟨S1x128x6144, .bf16⟩ : BufTy).Contents (Elt F) :=
  Host.slice S1x128x6144 ![0, 0, 0] ![1, 1, 2] (x0) slicesBy_S1x128x12288_S1x128x6144_0s1_0s1_0s2

-- %1 = stablehlo.slice %arg0 [0:1, 0:128, 1:12288:2] : (tensor<1x128x12288xbf16>) -> tensor<1x128x6144xbf16>
def val_main_v1 (x0 : (⟨S1x128x12288, .bf16⟩ : BufTy).Contents (Elt F)) : (⟨S1x128x6144, .bf16⟩ : BufTy).Contents (Elt F) :=
  Host.slice S1x128x6144 ![0, 0, 1] ![1, 1, 2] (x0) slicesBy_S1x128x12288_S1x128x6144_0s1_0s1_1s2

-- %2 = stablehlo.broadcast_in_dim %arg2, dims = [0, 2] : (tensor<96x24576xbf16>) -> tensor<96x64x24576xbf16>
def val_main_v2 (x2 : (⟨S96x24576, .bf16⟩ : BufTy).Contents (Elt F)) : (⟨S96x64x24576, .bf16⟩ : BufTy).Contents (Elt F) :=
  broadcastInDim S96x64x24576 ![0, 2] bcast_S96x24576_S96x64x24576_0_2 (x2)
abbrev idx_main_v2 (i : S96x64x24576.Idx) : S96x24576.Idx := fun a => match a with
  | ⟨0, _⟩ => ⟨(i 0).val, (i 0).isLt⟩
  | ⟨1, _⟩ => ⟨(i 2).val, (i 2).isLt⟩
theorem val_main_v2_apply (x2 : (⟨S96x24576, .bf16⟩ : BufTy).Contents (Elt F)) (i : S96x64x24576.Idx) :
    val_main_v2 (F := F) x2 i = x2 (idx_main_v2 i) := by
  unfold val_main_v2
  exact broadcastInDim_apply _ bcast_S96x24576_S96x64x24576_0_2 x2 i (idx_main_v2 i) (fun a => match a with
    | ⟨0, _⟩ => by show (i 0).val = if (96 : Nat) = 1 then 0 else (i 0).val; rw [if_neg (by decide)]
    | ⟨1, _⟩ => by show (i 2).val = if (24576 : Nat) = 1 then 0 else (i 2).val; rw [if_neg (by decide)])

-- %3 = stablehlo.reshape %2 : (tensor<96x64x24576xbf16>) -> tensor<6144x24576xbf16>
def val_main_v3 (x2 : (⟨S96x24576, .bf16⟩ : BufTy).Contents (Elt F)) : (⟨S6144x24576, .bf16⟩ : BufTy).Contents (Elt F) :=
  shapeCast _ (val_main_v2 (F := F) x2) shapeCasts_S96x64x24576_S6144x24576
set_option backward.proofsInPublic true in
abbrev idx_main_v3 (i : S6144x24576.Idx) : S96x64x24576.Idx := fun a => match a with
  | ⟨0, _⟩ => ⟨((i 0).val * 24576 + (i 1).val) / 1572864, by have h0 : (i 0).val < 6144 := (i 0).isLt; have h1 : (i 1).val < 24576 := (i 1).isLt; show ((i 0).val * 24576 + (i 1).val) / 1572864 < 96; omega⟩
  | ⟨1, _⟩ => ⟨((i 0).val * 24576 + (i 1).val) / 24576 % 64, by have h0 : (i 0).val < 6144 := (i 0).isLt; have h1 : (i 1).val < 24576 := (i 1).isLt; show ((i 0).val * 24576 + (i 1).val) / 24576 % 64 < 64; omega⟩
  | ⟨2, _⟩ => ⟨((i 0).val * 24576 + (i 1).val) % 24576, by have h0 : (i 0).val < 6144 := (i 0).isLt; have h1 : (i 1).val < 24576 := (i 1).isLt; show ((i 0).val * 24576 + (i 1).val) % 24576 < 24576; omega⟩
theorem val_main_v3_apply (x2 : (⟨S96x24576, .bf16⟩ : BufTy).Contents (Elt F)) (i : S6144x24576.Idx) :
    val_main_v3 (F := F) x2 i = val_main_v2 (F := F) x2 (idx_main_v3 i) := by
  unfold val_main_v3
  generalize val_main_v2 (F := F) x2 = y
  exact shapeCast_apply y shapeCasts_S96x64x24576_S6144x24576 i (idx_main_v3 i)
    (by rewrite [Shape.rowMajor_val_three, Shape.rowMajor_val_two]; have h0 : (i 0).val < 6144 := (i 0).isLt; have h1 : (i 1).val < 24576 := (i 1).isLt; show (((i 0).val * 24576 + (i 1).val) / 1572864 * 64 + ((i 0).val * 24576 + (i 1).val) / 24576 % 64) * 24576 + ((i 0).val * 24576 + (i 1).val) % 24576 = (i 0).val * 24576 + (i 1).val; omega)

-- %4 = stablehlo.convert %arg1 : (tensor<6144x24576xui8>) -> tensor<6144x24576xi32>
def val_main_v4 (x1 : (⟨S6144x24576, .i8⟩ : BufTy).Contents (Elt F)) : (⟨S6144x24576, .i32⟩ : BufTy).Contents (Elt F) :=
  extui 32 (x1) natLt_8_32
theorem val_main_v4_apply (x1 : (⟨S6144x24576, .i8⟩ : BufTy).Contents (Elt F)) (i : S6144x24576.Idx) :
    val_main_v4 (F := F) x1 i = (x1 i).setWidth 32 := rfl

-- %c = stablehlo.constant dense<15> : tensor<i32>
def val_main_c : (⟨S_, .i32⟩ : BufTy).Contents (Elt F) :=
  constantI S_ 32 15#32
theorem val_main_c_apply (i : S_.Idx) :
    val_main_c (F := F) i = 15#32 := rfl

-- %5 = stablehlo.broadcast_in_dim %c, dims = [] : (tensor<i32>) -> tensor<6144x24576xi32>
def val_main_v5 : (⟨S6144x24576, .i32⟩ : BufTy).Contents (Elt F) :=
  broadcastInDim S6144x24576 ![] bcast_S_S6144x24576 (val_main_c (F := F))
abbrev idx_main_v5 (i : S6144x24576.Idx) : S_.Idx := fun a => a.elim0
theorem val_main_v5_apply (i : S6144x24576.Idx) :
    val_main_v5 (F := F) i = val_main_c (F := F) (idx_main_v5 i) := by
  unfold val_main_v5
  generalize val_main_c (F := F) = y
  exact broadcastInDim_apply _ bcast_S_S6144x24576 y i (idx_main_v5 i) (fun a => a.elim0)

-- %6 = stablehlo.and %4, %5 : tensor<6144x24576xi32>
def val_main_v6 (x1 : (⟨S6144x24576, .i8⟩ : BufTy).Contents (Elt F)) : (⟨S6144x24576, .i32⟩ : BufTy).Contents (Elt F) :=
  andi (val_main_v4 (F := F) x1) (val_main_v5 (F := F))
theorem val_main_v6_apply (x1 : (⟨S6144x24576, .i8⟩ : BufTy).Contents (Elt F)) (i : S6144x24576.Idx) :
    val_main_v6 (F := F) x1 i = IntOp.andi (val_main_v4 (F := F) x1 i) (val_main_v5 (F := F) i) := rfl

-- %7 = stablehlo.convert %6 : (tensor<6144x24576xi32>) -> tensor<6144x24576xbf16>
def val_main_v7 (x1 : (⟨S6144x24576, .i8⟩ : BufTy).Contents (Elt F)) : (⟨S6144x24576, .bf16⟩ : BufTy).Contents (Elt F) :=
  sitofp .bf16 (val_main_v6 (F := F) x1)
theorem val_main_v7_apply (x1 : (⟨S6144x24576, .i8⟩ : BufTy).Contents (Elt F)) (i : S6144x24576.Idx) :
    val_main_v7 (F := F) x1 i = FloatOps.sitofp .bf16 (val_main_v6 (F := F) x1 i) := rfl

-- %cst = stablehlo.constant dense<8.000000e+00> : tensor<bf16>
def val_main_cst : (⟨S_, .bf16⟩ : BufTy).Contents (Elt F) :=
  constant S_ .bf16 0x4100#16
theorem val_main_cst_apply (i : S_.Idx) :
    val_main_cst (F := F) i = FloatOps.ofBits .bf16 0x4100#16 := rfl

-- %8 = stablehlo.broadcast_in_dim %cst, dims = [] : (tensor<bf16>) -> tensor<6144x24576xbf16>
def val_main_v8 : (⟨S6144x24576, .bf16⟩ : BufTy).Contents (Elt F) :=
  broadcastInDim S6144x24576 ![] bcast_S_S6144x24576 (val_main_cst (F := F))
abbrev idx_main_v8 (i : S6144x24576.Idx) : S_.Idx := fun a => a.elim0
theorem val_main_v8_apply (i : S6144x24576.Idx) :
    val_main_v8 (F := F) i = val_main_cst (F := F) (idx_main_v8 i) := by
  unfold val_main_v8
  generalize val_main_cst (F := F) = y
  exact broadcastInDim_apply _ bcast_S_S6144x24576 y i (idx_main_v8 i) (fun a => a.elim0)

-- %9 = stablehlo.subtract %7, %8 : tensor<6144x24576xbf16>
def val_main_v9 (x1 : (⟨S6144x24576, .i8⟩ : BufTy).Contents (Elt F)) : (⟨S6144x24576, .bf16⟩ : BufTy).Contents (Elt F) :=
  subf (val_main_v7 (F := F) x1) (val_main_v8 (F := F))
theorem val_main_v9_apply (x1 : (⟨S6144x24576, .i8⟩ : BufTy).Contents (Elt F)) (i : S6144x24576.Idx) :
    val_main_v9 (F := F) x1 i = FloatOps.subf (val_main_v7 (F := F) x1 i) (val_main_v8 (F := F) i) := rfl

-- %10 = stablehlo.multiply %9, %3 : tensor<6144x24576xbf16>
def val_main_v10 (x1 : (⟨S6144x24576, .i8⟩ : BufTy).Contents (Elt F)) (x2 : (⟨S96x24576, .bf16⟩ : BufTy).Contents (Elt F)) : (⟨S6144x24576, .bf16⟩ : BufTy).Contents (Elt F) :=
  mulf (val_main_v9 (F := F) x1) (val_main_v3 (F := F) x2)
theorem val_main_v10_apply (x1 : (⟨S6144x24576, .i8⟩ : BufTy).Contents (Elt F)) (x2 : (⟨S96x24576, .bf16⟩ : BufTy).Contents (Elt F)) (i : S6144x24576.Idx) :
    val_main_v10 (F := F) x1 x2 i = FloatOps.mulf (val_main_v9 (F := F) x1 i) (val_main_v3 (F := F) x2 i) := rfl

-- %11 = stablehlo.convert %arg1 : (tensor<6144x24576xui8>) -> tensor<6144x24576xi32>
def val_main_v11 (x1 : (⟨S6144x24576, .i8⟩ : BufTy).Contents (Elt F)) : (⟨S6144x24576, .i32⟩ : BufTy).Contents (Elt F) :=
  extui 32 (x1) natLt_8_32
theorem val_main_v11_apply (x1 : (⟨S6144x24576, .i8⟩ : BufTy).Contents (Elt F)) (i : S6144x24576.Idx) :
    val_main_v11 (F := F) x1 i = (x1 i).setWidth 32 := rfl

-- %c_0 = stablehlo.constant dense<4> : tensor<i32>
def val_main_c_0 : (⟨S_, .i32⟩ : BufTy).Contents (Elt F) :=
  constantI S_ 32 4#32
theorem val_main_c_0_apply (i : S_.Idx) :
    val_main_c_0 (F := F) i = 4#32 := rfl

-- %12 = stablehlo.broadcast_in_dim %c_0, dims = [] : (tensor<i32>) -> tensor<6144x24576xi32>
def val_main_v12 : (⟨S6144x24576, .i32⟩ : BufTy).Contents (Elt F) :=
  broadcastInDim S6144x24576 ![] bcast_S_S6144x24576 (val_main_c_0 (F := F))
abbrev idx_main_v12 (i : S6144x24576.Idx) : S_.Idx := fun a => a.elim0
theorem val_main_v12_apply (i : S6144x24576.Idx) :
    val_main_v12 (F := F) i = val_main_c_0 (F := F) (idx_main_v12 i) := by
  unfold val_main_v12
  generalize val_main_c_0 (F := F) = y
  exact broadcastInDim_apply _ bcast_S_S6144x24576 y i (idx_main_v12 i) (fun a => a.elim0)

-- %13 = stablehlo.shift_right_arithmetic %11, %12 : tensor<6144x24576xi32>
def val_main_v13 (x1 : (⟨S6144x24576, .i8⟩ : BufTy).Contents (Elt F)) : (⟨S6144x24576, .i32⟩ : BufTy).Contents (Elt F) :=
  Host.shrsi (val_main_v11 (F := F) x1) (val_main_v12 (F := F))
theorem val_main_v13_apply (x1 : (⟨S6144x24576, .i8⟩ : BufTy).Contents (Elt F)) (i : S6144x24576.Idx) :
    val_main_v13 (F := F) x1 i = IntOp.shrsi .host (val_main_v11 (F := F) x1 i) (val_main_v12 (F := F) i) := rfl

-- %14 = stablehlo.convert %13 : (tensor<6144x24576xi32>) -> tensor<6144x24576xbf16>
def val_main_v14 (x1 : (⟨S6144x24576, .i8⟩ : BufTy).Contents (Elt F)) : (⟨S6144x24576, .bf16⟩ : BufTy).Contents (Elt F) :=
  sitofp .bf16 (val_main_v13 (F := F) x1)
theorem val_main_v14_apply (x1 : (⟨S6144x24576, .i8⟩ : BufTy).Contents (Elt F)) (i : S6144x24576.Idx) :
    val_main_v14 (F := F) x1 i = FloatOps.sitofp .bf16 (val_main_v13 (F := F) x1 i) := rfl

-- %cst_1 = stablehlo.constant dense<8.000000e+00> : tensor<bf16>
def val_main_cst_1 : (⟨S_, .bf16⟩ : BufTy).Contents (Elt F) :=
  constant S_ .bf16 0x4100#16
theorem val_main_cst_1_apply (i : S_.Idx) :
    val_main_cst_1 (F := F) i = FloatOps.ofBits .bf16 0x4100#16 := rfl

-- %15 = stablehlo.broadcast_in_dim %cst_1, dims = [] : (tensor<bf16>) -> tensor<6144x24576xbf16>
def val_main_v15 : (⟨S6144x24576, .bf16⟩ : BufTy).Contents (Elt F) :=
  broadcastInDim S6144x24576 ![] bcast_S_S6144x24576 (val_main_cst_1 (F := F))
abbrev idx_main_v15 (i : S6144x24576.Idx) : S_.Idx := fun a => a.elim0
theorem val_main_v15_apply (i : S6144x24576.Idx) :
    val_main_v15 (F := F) i = val_main_cst_1 (F := F) (idx_main_v15 i) := by
  unfold val_main_v15
  generalize val_main_cst_1 (F := F) = y
  exact broadcastInDim_apply _ bcast_S_S6144x24576 y i (idx_main_v15 i) (fun a => a.elim0)

-- %16 = stablehlo.subtract %14, %15 : tensor<6144x24576xbf16>
def val_main_v16 (x1 : (⟨S6144x24576, .i8⟩ : BufTy).Contents (Elt F)) : (⟨S6144x24576, .bf16⟩ : BufTy).Contents (Elt F) :=
  subf (val_main_v14 (F := F) x1) (val_main_v15 (F := F))
theorem val_main_v16_apply (x1 : (⟨S6144x24576, .i8⟩ : BufTy).Contents (Elt F)) (i : S6144x24576.Idx) :
    val_main_v16 (F := F) x1 i = FloatOps.subf (val_main_v14 (F := F) x1 i) (val_main_v15 (F := F) i) := rfl

-- %17 = stablehlo.multiply %16, %3 : tensor<6144x24576xbf16>
def val_main_v17 (x1 : (⟨S6144x24576, .i8⟩ : BufTy).Contents (Elt F)) (x2 : (⟨S96x24576, .bf16⟩ : BufTy).Contents (Elt F)) : (⟨S6144x24576, .bf16⟩ : BufTy).Contents (Elt F) :=
  mulf (val_main_v16 (F := F) x1) (val_main_v3 (F := F) x2)
theorem val_main_v17_apply (x1 : (⟨S6144x24576, .i8⟩ : BufTy).Contents (Elt F)) (x2 : (⟨S96x24576, .bf16⟩ : BufTy).Contents (Elt F)) (i : S6144x24576.Idx) :
    val_main_v17 (F := F) x1 x2 i = FloatOps.mulf (val_main_v16 (F := F) x1 i) (val_main_v3 (F := F) x2 i) := rfl

-- %18 = stablehlo.dot_general %0, %10, contracting_dims = [2] x [0], precision = [DEFAULT, DEFAULT] : (tensor<1x128x6144xbf16>, tensor<6144x24576xbf16>) -> tensor<1x128x24576xf32>
def val_main_v18 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  Host.dotGeneral dot_S1x128x6144_S6144x24576_S1x128x24576_2_0_01_1_n_n none (val_main_v0 (F := F) x0) (val_main_v10 (F := F) x1 x2)
theorem lhs_main_v18_0 (i : S1x128x24576.Idx) (q : dot_S1x128x6144_S6144x24576_S1x128x24576_2_0_01_1_n_n.contr.Idx) :
    (dot_S1x128x6144_S6144x24576_S1x128x24576_2_0_01_1_n_n.lhsIdx i q 0).val = (i 0).val := by
  unfold DotDims.lhsIdx
  rw [dif_neg (show ¬(0 : Fin S1x128x6144.rank) ∈ dot_S1x128x6144_S6144x24576_S1x128x24576_2_0_01_1_n_n.lhsBatch by decide), dif_pos (show (0 : Fin S1x128x6144.rank) ∈ dot_S1x128x6144_S6144x24576_S1x128x24576_2_0_01_1_n_n.lhsNonContracting by decide)]
  rfl
theorem lhs_main_v18_1 (i : S1x128x24576.Idx) (q : dot_S1x128x6144_S6144x24576_S1x128x24576_2_0_01_1_n_n.contr.Idx) :
    (dot_S1x128x6144_S6144x24576_S1x128x24576_2_0_01_1_n_n.lhsIdx i q 1).val = (i 1).val := by
  unfold DotDims.lhsIdx
  rw [dif_neg (show ¬(1 : Fin S1x128x6144.rank) ∈ dot_S1x128x6144_S6144x24576_S1x128x24576_2_0_01_1_n_n.lhsBatch by decide), dif_pos (show (1 : Fin S1x128x6144.rank) ∈ dot_S1x128x6144_S6144x24576_S1x128x24576_2_0_01_1_n_n.lhsNonContracting by decide)]
  rfl
theorem lhs_main_v18_2 (i : S1x128x24576.Idx) (q : dot_S1x128x6144_S6144x24576_S1x128x24576_2_0_01_1_n_n.contr.Idx) :
    (dot_S1x128x6144_S6144x24576_S1x128x24576_2_0_01_1_n_n.lhsIdx i q 2).val = (q ⟨0, by decide⟩).val :=
  dot_S1x128x6144_S6144x24576_S1x128x24576_2_0_01_1_n_n.lhsIdx_val_of_single rfl i q
theorem rhs_main_v18_0 (i : S1x128x24576.Idx) (q : dot_S1x128x6144_S6144x24576_S1x128x24576_2_0_01_1_n_n.contr.Idx) :
    (dot_S1x128x6144_S6144x24576_S1x128x24576_2_0_01_1_n_n.rhsIdx i q 0).val = (q ⟨0, by decide⟩).val :=
  dot_S1x128x6144_S6144x24576_S1x128x24576_2_0_01_1_n_n.rhsIdx_val_of_single rfl i q
theorem rhs_main_v18_1 (i : S1x128x24576.Idx) (q : dot_S1x128x6144_S6144x24576_S1x128x24576_2_0_01_1_n_n.contr.Idx) :
    (dot_S1x128x6144_S6144x24576_S1x128x24576_2_0_01_1_n_n.rhsIdx i q 1).val = (i 2).val := by
  unfold DotDims.rhsIdx
  rw [dif_neg (show ¬(1 : Fin S6144x24576.rank) ∈ dot_S1x128x6144_S6144x24576_S1x128x24576_2_0_01_1_n_n.rhsBatch by decide), dif_pos (show (1 : Fin S6144x24576.rank) ∈ dot_S1x128x6144_S6144x24576_S1x128x24576_2_0_01_1_n_n.rhsNonContracting by decide)]
  rfl
abbrev lidx_main_v18 (i : S1x128x24576.Idx) (k : Fin 6144) : S1x128x6144.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v18 (i : S1x128x24576.Idx) (k : Fin 6144) : S6144x24576.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v18_apply (x0 : (⟨S1x128x12288, .bf16⟩ : BufTy).Contents (Elt Ideal)) (x1 : (⟨S6144x24576, .i8⟩ : BufTy).Contents (Elt Ideal)) (x2 : (⟨S96x24576, .bf16⟩ : BufTy).Contents (Elt Ideal)) (i : S1x128x24576.Idx) :
    val_main_v18 (F := Ideal) x0 x1 x2 i = ∑ k : Fin 6144, (val_main_v0 (F := Ideal) x0) (lidx_main_v18 i k) * (val_main_v10 (F := Ideal) x1 x2) (ridx_main_v18 i k) := by
  unfold val_main_v18
  generalize val_main_v0 (F := Ideal) x0 = y0
  generalize val_main_v10 (F := Ideal) x1 x2 = y1
  simp only [Host.dotGeneral]
  rw [Ideal.dotGeneral_apply, ← Equiv.sum_comp (ValueIdx.contrEquiv1 dot_S1x128x6144_S6144x24576_S1x128x24576_2_0_01_1_n_n 6144 rfl rfl).symm]
  refine Finset.sum_congr rfl fun k _ => ?_
  have hk := ValueIdx.contrEquiv1_symm_val dot_S1x128x6144_S6144x24576_S1x128x24576_2_0_01_1_n_n 6144 rfl rfl k
  have el : dot_S1x128x6144_S6144x24576_S1x128x24576_2_0_01_1_n_n.lhsIdx i ((ValueIdx.contrEquiv1 dot_S1x128x6144_S6144x24576_S1x128x24576_2_0_01_1_n_n 6144 rfl rfl).symm k) = lidx_main_v18 i k := funext fun a => Fin.ext (by
    match a with
    | ⟨0, _⟩ => exact lhs_main_v18_0 _ _
    | ⟨1, _⟩ => exact lhs_main_v18_1 _ _
    | ⟨2, _⟩ => exact (lhs_main_v18_2 _ _).trans hk)
  have er : dot_S1x128x6144_S6144x24576_S1x128x24576_2_0_01_1_n_n.rhsIdx i ((ValueIdx.contrEquiv1 dot_S1x128x6144_S6144x24576_S1x128x24576_2_0_01_1_n_n 6144 rfl rfl).symm k) = ridx_main_v18 i k := funext fun a => Fin.ext (by
    match a with
    | ⟨0, _⟩ => exact (rhs_main_v18_0 _ _).trans hk
    | ⟨1, _⟩ => exact rhs_main_v18_1 _ _)
  rw [el, er]

-- %19 = stablehlo.dot_general %1, %17, contracting_dims = [2] x [0], precision = [DEFAULT, DEFAULT] : (tensor<1x128x6144xbf16>, tensor<6144x24576xbf16>) -> tensor<1x128x24576xf32>
def val_main_v19 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  Host.dotGeneral dot_S1x128x6144_S6144x24576_S1x128x24576_2_0_01_1_n_n none (val_main_v1 (F := F) x0) (val_main_v17 (F := F) x1 x2)
theorem lhs_main_v19_0 (i : S1x128x24576.Idx) (q : dot_S1x128x6144_S6144x24576_S1x128x24576_2_0_01_1_n_n.contr.Idx) :
    (dot_S1x128x6144_S6144x24576_S1x128x24576_2_0_01_1_n_n.lhsIdx i q 0).val = (i 0).val := by
  unfold DotDims.lhsIdx
  rw [dif_neg (show ¬(0 : Fin S1x128x6144.rank) ∈ dot_S1x128x6144_S6144x24576_S1x128x24576_2_0_01_1_n_n.lhsBatch by decide), dif_pos (show (0 : Fin S1x128x6144.rank) ∈ dot_S1x128x6144_S6144x24576_S1x128x24576_2_0_01_1_n_n.lhsNonContracting by decide)]
  rfl
theorem lhs_main_v19_1 (i : S1x128x24576.Idx) (q : dot_S1x128x6144_S6144x24576_S1x128x24576_2_0_01_1_n_n.contr.Idx) :
    (dot_S1x128x6144_S6144x24576_S1x128x24576_2_0_01_1_n_n.lhsIdx i q 1).val = (i 1).val := by
  unfold DotDims.lhsIdx
  rw [dif_neg (show ¬(1 : Fin S1x128x6144.rank) ∈ dot_S1x128x6144_S6144x24576_S1x128x24576_2_0_01_1_n_n.lhsBatch by decide), dif_pos (show (1 : Fin S1x128x6144.rank) ∈ dot_S1x128x6144_S6144x24576_S1x128x24576_2_0_01_1_n_n.lhsNonContracting by decide)]
  rfl
theorem lhs_main_v19_2 (i : S1x128x24576.Idx) (q : dot_S1x128x6144_S6144x24576_S1x128x24576_2_0_01_1_n_n.contr.Idx) :
    (dot_S1x128x6144_S6144x24576_S1x128x24576_2_0_01_1_n_n.lhsIdx i q 2).val = (q ⟨0, by decide⟩).val :=
  dot_S1x128x6144_S6144x24576_S1x128x24576_2_0_01_1_n_n.lhsIdx_val_of_single rfl i q
theorem rhs_main_v19_0 (i : S1x128x24576.Idx) (q : dot_S1x128x6144_S6144x24576_S1x128x24576_2_0_01_1_n_n.contr.Idx) :
    (dot_S1x128x6144_S6144x24576_S1x128x24576_2_0_01_1_n_n.rhsIdx i q 0).val = (q ⟨0, by decide⟩).val :=
  dot_S1x128x6144_S6144x24576_S1x128x24576_2_0_01_1_n_n.rhsIdx_val_of_single rfl i q
theorem rhs_main_v19_1 (i : S1x128x24576.Idx) (q : dot_S1x128x6144_S6144x24576_S1x128x24576_2_0_01_1_n_n.contr.Idx) :
    (dot_S1x128x6144_S6144x24576_S1x128x24576_2_0_01_1_n_n.rhsIdx i q 1).val = (i 2).val := by
  unfold DotDims.rhsIdx
  rw [dif_neg (show ¬(1 : Fin S6144x24576.rank) ∈ dot_S1x128x6144_S6144x24576_S1x128x24576_2_0_01_1_n_n.rhsBatch by decide), dif_pos (show (1 : Fin S6144x24576.rank) ∈ dot_S1x128x6144_S6144x24576_S1x128x24576_2_0_01_1_n_n.rhsNonContracting by decide)]
  rfl
abbrev lidx_main_v19 (i : S1x128x24576.Idx) (k : Fin 6144) : S1x128x6144.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v19 (i : S1x128x24576.Idx) (k : Fin 6144) : S6144x24576.Idx := fun a => match a with
  | ⟨0, _⟩ => ⟨k.val, k.isLt⟩
  | ⟨1, _⟩ => ⟨(i 2).val, (i 2).isLt⟩
/-- Stated at `F := Ideal`, where the host's `dot_general` is this sum; at a bit-exact instance it is an opaque function of its operands. -/
theorem val_main_v19_apply (x0 : (⟨S1x128x12288, .bf16⟩ : BufTy).Contents (Elt Ideal)) (x1 : (⟨S6144x24576, .i8⟩ : BufTy).Contents (Elt Ideal)) (x2 : (⟨S96x24576, .bf16⟩ : BufTy).Contents (Elt Ideal)) (i : S1x128x24576.Idx) :
    val_main_v19 (F := Ideal) x0 x1 x2 i = ∑ k : Fin 6144, (val_main_v1 (F := Ideal) x0) (lidx_main_v19 i k) * (val_main_v17 (F := Ideal) x1 x2) (ridx_main_v19 i k) := by
  unfold val_main_v19
  generalize val_main_v1 (F := Ideal) x0 = y0
  generalize val_main_v17 (F := Ideal) x1 x2 = y1
  simp only [Host.dotGeneral]
  rw [Ideal.dotGeneral_apply, ← Equiv.sum_comp (ValueIdx.contrEquiv1 dot_S1x128x6144_S6144x24576_S1x128x24576_2_0_01_1_n_n 6144 rfl rfl).symm]
  refine Finset.sum_congr rfl fun k _ => ?_
  have hk := ValueIdx.contrEquiv1_symm_val dot_S1x128x6144_S6144x24576_S1x128x24576_2_0_01_1_n_n 6144 rfl rfl k
  have el : dot_S1x128x6144_S6144x24576_S1x128x24576_2_0_01_1_n_n.lhsIdx i ((ValueIdx.contrEquiv1 dot_S1x128x6144_S6144x24576_S1x128x24576_2_0_01_1_n_n 6144 rfl rfl).symm k) = lidx_main_v19 i k := funext fun a => Fin.ext (by
    match a with
    | ⟨0, _⟩ => exact lhs_main_v19_0 _ _
    | ⟨1, _⟩ => exact lhs_main_v19_1 _ _
    | ⟨2, _⟩ => exact (lhs_main_v19_2 _ _).trans hk)
  have er : dot_S1x128x6144_S6144x24576_S1x128x24576_2_0_01_1_n_n.rhsIdx i ((ValueIdx.contrEquiv1 dot_S1x128x6144_S6144x24576_S1x128x24576_2_0_01_1_n_n 6144 rfl rfl).symm k) = ridx_main_v19 i k := funext fun a => Fin.ext (by
    match a with
    | ⟨0, _⟩ => exact (rhs_main_v19_0 _ _).trans hk
    | ⟨1, _⟩ => exact rhs_main_v19_1 _ _)
  rw [el, er]

-- %20 = stablehlo.add %18, %19 : tensor<1x128x24576xf32>
def val_main_v20 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  addf (val_main_v18 (F := F) x0 x1 x2) (val_main_v19 (F := F) x0 x1 x2)
theorem val_main_v20_apply (x0 : (⟨S1x128x12288, .bf16⟩ : BufTy).Contents (Elt F)) (x1 : (⟨S6144x24576, .i8⟩ : BufTy).Contents (Elt F)) (x2 : (⟨S96x24576, .bf16⟩ : BufTy).Contents (Elt F)) (i : S1x128x24576.Idx) :
    val_main_v20 (F := F) x0 x1 x2 i = FloatOps.addf (val_main_v18 (F := F) x0 x1 x2 i) (val_main_v19 (F := F) x0 x1 x2 i) := rfl

-- @silu's %0 = stablehlo.negate %arg0 : tensor<1x128x24576xf32>, in %40 = func.call @silu(…) (record main_call0)
def val_main_call0_v0 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  Host.negf (val_main_v20 (F := F) x0 x1 x2)
theorem val_main_call0_v0_apply (x0 : (⟨S1x128x12288, .bf16⟩ : BufTy).Contents (Elt F)) (x1 : (⟨S6144x24576, .i8⟩ : BufTy).Contents (Elt F)) (x2 : (⟨S96x24576, .bf16⟩ : BufTy).Contents (Elt F)) (i : S1x128x24576.Idx) :
    val_main_call0_v0 (F := F) x0 x1 x2 i = FloatOps.hostNegf (val_main_v20 (F := F) x0 x1 x2 i) := rfl

-- @silu's %1 = stablehlo.exponential %0 : tensor<1x128x24576xf32>, in %40 = func.call @silu(…) (record main_call0)
def val_main_call0_v1 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  Host.exp (val_main_call0_v0 (F := F) x0 x1 x2)
theorem val_main_call0_v1_apply (x0 : (⟨S1x128x12288, .bf16⟩ : BufTy).Contents (Elt F)) (x1 : (⟨S6144x24576, .i8⟩ : BufTy).Contents (Elt F)) (x2 : (⟨S96x24576, .bf16⟩ : BufTy).Contents (Elt F)) (i : S1x128x24576.Idx) :
    val_main_call0_v1 (F := F) x0 x1 x2 i = FloatOps.hostUnary .exp (val_main_call0_v0 (F := F) x0 x1 x2 i) := rfl

-- @silu's %cst = stablehlo.constant dense<1.000000e+00> : tensor<f32>, in %40 = func.call @silu(…) (record main_call0)
def val_main_call0_cst : (⟨S_, .f32⟩ : BufTy).Contents (Elt F) :=
  constant S_ .f32 0x3F800000#32
theorem val_main_call0_cst_apply (i : S_.Idx) :
    val_main_call0_cst (F := F) i = FloatOps.ofBits .f32 0x3F800000#32 := rfl

-- @silu's %2 = stablehlo.broadcast_in_dim %cst, dims = [] : (tensor<f32>) -> tensor<1x128x24576xf32>, in %40 = func.call @silu(…) (record main_call0)
def val_main_call0_v2 : (⟨S1x128x24576, .f32⟩ : BufTy).Contents (Elt F) :=
  broadcastInDim S1x128x24576 ![] bcast_S_S1x128x24576 (val_main_call0_cst (F := F))
abbrev idx_main_call0_v2 (i : S1x128x24576.Idx) : S_.Idx := fun a => a.elim0
theorem val_main_call0_v2_apply (i : S1x128x24576.Idx) :
    val_main_call0_v2 (F := F) i = val_main_call0_cst (F := F) (idx_main_call0_v2 i) := by
  unfold val_main_call0_v2
  generalize val_main_call0_cst (F := F) = y
  exact broadcastInDim_apply _ bcast_S_S1x128x24576 y i (idx_main_call0_v2 i) (fun a => a.elim0)

-- @silu's %3 = stablehlo.add %2, %1 : tensor<1x128x24576xf32>, in %40 = func.call @silu(…) (record main_call0)
def val_main_call0_v3 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  addf (val_main_call0_v2 (F := F)) (val_main_call0_v1 (F := F) x0 x1 x2)
theorem val_main_call0_v3_apply (x0 : (⟨S1x128x12288, .bf16⟩ : BufTy).Contents (Elt F)) (x1 : (⟨S6144x24576, .i8⟩ : BufTy).Contents (Elt F)) (x2 : (⟨S96x24576, .bf16⟩ : BufTy).Contents (Elt F)) (i : S1x128x24576.Idx) :
    val_main_call0_v3 (F := F) x0 x1 x2 i = FloatOps.addf (val_main_call0_v2 (F := F) i) (val_main_call0_v1 (F := F) x0 x1 x2 i) := rfl

-- @silu's %cst_0 = stablehlo.constant dense<1.000000e+00> : tensor<f32>, in %40 = func.call @silu(…) (record main_call0)
def val_main_call0_cst_0 : (⟨S_, .f32⟩ : BufTy).Contents (Elt F) :=
  constant S_ .f32 0x3F800000#32
theorem val_main_call0_cst_0_apply (i : S_.Idx) :
    val_main_call0_cst_0 (F := F) i = FloatOps.ofBits .f32 0x3F800000#32 := rfl

-- @silu's %4 = stablehlo.broadcast_in_dim %cst_0, dims = [] : (tensor<f32>) -> tensor<1x128x24576xf32>, in %40 = func.call @silu(…) (record main_call0)
def val_main_call0_v4 : (⟨S1x128x24576, .f32⟩ : BufTy).Contents (Elt F) :=
  broadcastInDim S1x128x24576 ![] bcast_S_S1x128x24576 (val_main_call0_cst_0 (F := F))
abbrev idx_main_call0_v4 (i : S1x128x24576.Idx) : S_.Idx := fun a => a.elim0
theorem val_main_call0_v4_apply (i : S1x128x24576.Idx) :
    val_main_call0_v4 (F := F) i = val_main_call0_cst_0 (F := F) (idx_main_call0_v4 i) := by
  unfold val_main_call0_v4
  generalize val_main_call0_cst_0 (F := F) = y
  exact broadcastInDim_apply _ bcast_S_S1x128x24576 y i (idx_main_call0_v4 i) (fun a => a.elim0)

-- @silu's %5 = stablehlo.divide %4, %3 : tensor<1x128x24576xf32>, in %40 = func.call @silu(…) (record main_call0)
def val_main_call0_v5 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  Host.divf (val_main_call0_v4 (F := F)) (val_main_call0_v3 (F := F) x0 x1 x2)
theorem val_main_call0_v5_apply (x0 : (⟨S1x128x12288, .bf16⟩ : BufTy).Contents (Elt F)) (x1 : (⟨S6144x24576, .i8⟩ : BufTy).Contents (Elt F)) (x2 : (⟨S96x24576, .bf16⟩ : BufTy).Contents (Elt F)) (i : S1x128x24576.Idx) :
    val_main_call0_v5 (F := F) x0 x1 x2 i = FloatOps.hostDivf (val_main_call0_v4 (F := F) i) (val_main_call0_v3 (F := F) x0 x1 x2 i) := rfl

-- %40 = func.call @silu(…) (record main_call0) result 0: @silu's %6 = stablehlo.multiply %arg0, %5 : tensor<1x128x24576xf32>
def val_main_v40 (x0 : (⟨S1x128x12288, .bf16⟩ : BufTy).Contents (Elt F)) (x1 : (⟨S6144x24576, .i8⟩ : BufTy).Contents (Elt F)) (x2 : (⟨S96x24576, .bf16⟩ : BufTy).Contents (Elt F)) : (⟨S1x128x24576, .f32⟩ : BufTy).Contents (Elt F) :=
  mulf (val_main_v20 (F := F) x0 x1 x2) (val_main_call0_v5 (F := F) x0 x1 x2)
theorem val_main_v40_apply (x0 : (⟨S1x128x12288, .bf16⟩ : BufTy).Contents (Elt F)) (x1 : (⟨S6144x24576, .i8⟩ : BufTy).Contents (Elt F)) (x2 : (⟨S96x24576, .bf16⟩ : BufTy).Contents (Elt F)) (i : S1x128x24576.Idx) :
    val_main_v40 (F := F) x0 x1 x2 i = FloatOps.mulf (val_main_v20 (F := F) x0 x1 x2 i) (val_main_call0_v5 (F := F) x0 x1 x2 i) := rfl

-- %41 = stablehlo.multiply %40, %39 : tensor<1x128x24576xf32>
def val_main_v41 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x24576, .f32⟩ : BufTy).Contents (Elt F) :=
  mulf (val_main_v40 (F := F) x0 x1 x2) (val_main_v20 (F := F) x0 x3 x4)
theorem val_main_v41_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x24576.Idx) :
    val_main_v41 (F := F) x0 x1 x2 x3 x4 i = FloatOps.mulf (val_main_v40 (F := F) x0 x1 x2 i) (val_main_v20 (F := F) x0 x3 x4 i) := rfl

-- %42 = stablehlo.reshape %41 : (tensor<1x128x24576xf32>) -> tensor<1x128x192x128xf32>
def val_main_v42 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x128, .f32⟩ : BufTy).Contents (Elt F) :=
  shapeCast _ (val_main_v41 (F := F) x0 x1 x2 x3 x4) shapeCasts_S1x128x24576_S1x128x192x128
set_option backward.proofsInPublic true in
abbrev idx_main_v42 (i : S1x128x192x128.Idx) : S1x128x24576.Idx := fun a => match a with
  | ⟨0, _⟩ => ⟨0, Nat.one_pos⟩
  | ⟨1, _⟩ => ⟨((((i 0).val * 128 + (i 1).val) * 192 + (i 2).val) * 128 + (i 3).val) / 24576 % 128, by have h0 : (i 0).val < 1 := (i 0).isLt; have h1 : (i 1).val < 128 := (i 1).isLt; have h2 : (i 2).val < 192 := (i 2).isLt; have h3 : (i 3).val < 128 := (i 3).isLt; show ((((i 0).val * 128 + (i 1).val) * 192 + (i 2).val) * 128 + (i 3).val) / 24576 % 128 < 128; omega⟩
  | ⟨2, _⟩ => ⟨((((i 0).val * 128 + (i 1).val) * 192 + (i 2).val) * 128 + (i 3).val) % 24576, by have h0 : (i 0).val < 1 := (i 0).isLt; have h1 : (i 1).val < 128 := (i 1).isLt; have h2 : (i 2).val < 192 := (i 2).isLt; have h3 : (i 3).val < 128 := (i 3).isLt; show ((((i 0).val * 128 + (i 1).val) * 192 + (i 2).val) * 128 + (i 3).val) % 24576 < 24576; omega⟩
theorem val_main_v42_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x128.Idx) :
    val_main_v42 (F := F) x0 x1 x2 x3 x4 i = val_main_v41 (F := F) x0 x1 x2 x3 x4 (idx_main_v42 i) := by
  unfold val_main_v42
  generalize val_main_v41 (F := F) x0 x1 x2 x3 x4 = y
  exact shapeCast_apply y shapeCasts_S1x128x24576_S1x128x192x128 i (idx_main_v42 i)
    (by rewrite [Shape.rowMajor_val_three, Shape.rowMajor_val_four]; have h0 : (i 0).val < 1 := (i 0).isLt; have h1 : (i 1).val < 128 := (i 1).isLt; have h2 : (i 2).val < 192 := (i 2).isLt; have h3 : (i 3).val < 128 := (i 3).isLt; show (0 * 128 + ((((i 0).val * 128 + (i 1).val) * 192 + (i 2).val) * 128 + (i 3).val) / 24576 % 128) * 24576 + ((((i 0).val * 128 + (i 1).val) * 192 + (i 2).val) * 128 + (i 3).val) % 24576 = (((i 0).val * 128 + (i 1).val) * 192 + (i 2).val) * 128 + (i 3).val; omega)

-- %43 = stablehlo.abs %42 : tensor<1x128x192x128xf32>
def val_main_v43 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x128, .f32⟩ : BufTy).Contents (Elt F) :=
  Host.absf (val_main_v42 (F := F) x0 x1 x2 x3 x4)
theorem val_main_v43_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x128.Idx) :
    val_main_v43 (F := F) x0 x1 x2 x3 x4 i = FloatOps.hostAbsf (val_main_v42 (F := F) x0 x1 x2 x3 x4 i) := rfl

-- %cst_6 = stablehlo.constant dense<0xFF800000> : tensor<f32>
def val_main_cst_6 : (⟨S_, .f32⟩ : BufTy).Contents (Elt F) :=
  constant S_ .f32 0xFF800000#32
theorem val_main_cst_6_apply (i : S_.Idx) :
    val_main_cst_6 (F := F) i = FloatOps.ofBits .f32 0xFF800000#32 := rfl

-- %44 = stablehlo.reduce(%43 init: %cst_6) applies stablehlo.maximum across dimensions = [3] : (tensor<1x128x192x128xf32>, tensor<f32>) -> tensor<1x128x192xf32> {
def val_main_v44 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  Host.reduce FloatOps.maximumf (val_main_v43 (F := F) x0 x1 x2 x3 x4) (val_main_cst_6 (F := F)) reducesTo_S1x128x192x128_S1x128x192_d3 h_S_

-- %cst_7 = stablehlo.constant dense<0.00223214296> : tensor<f32>
def val_main_cst_7 : (⟨S_, .f32⟩ : BufTy).Contents (Elt F) :=
  constant S_ .f32 0x3B124925#32
theorem val_main_cst_7_apply (i : S_.Idx) :
    val_main_cst_7 (F := F) i = FloatOps.ofBits .f32 0x3B124925#32 := rfl

-- %45 = stablehlo.broadcast_in_dim %cst_7, dims = [] : (tensor<f32>) -> tensor<1x128x192xf32>
def val_main_v45 : (⟨S1x128x192, .f32⟩ : BufTy).Contents (Elt F) :=
  broadcastInDim S1x128x192 ![] bcast_S_S1x128x192 (val_main_cst_7 (F := F))
abbrev idx_main_v45 (i : S1x128x192.Idx) : S_.Idx := fun a => a.elim0
theorem val_main_v45_apply (i : S1x128x192.Idx) :
    val_main_v45 (F := F) i = val_main_cst_7 (F := F) (idx_main_v45 i) := by
  unfold val_main_v45
  generalize val_main_cst_7 (F := F) = y
  exact broadcastInDim_apply _ bcast_S_S1x128x192 y i (idx_main_v45 i) (fun a => a.elim0)

-- %46 = stablehlo.multiply %44, %45 : tensor<1x128x192xf32>
def val_main_v46 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  mulf (val_main_v44 (F := F) x0 x1 x2 x3 x4) (val_main_v45 (F := F))
theorem val_main_v46_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192.Idx) :
    val_main_v46 (F := F) x0 x1 x2 x3 x4 i = FloatOps.mulf (val_main_v44 (F := F) x0 x1 x2 x3 x4 i) (val_main_v45 (F := F) i) := rfl

-- %47 = stablehlo.iota dim = 0 : tensor<254xf32>
def val_main_v47 : (⟨S254, .f32⟩ : BufTy).Contents (Elt F) :=
  sitofp .f32 (iotaInDim S254 32 0)

-- %cst_8 = stablehlo.constant dense<1.260000e+02> : tensor<f32>
def val_main_cst_8 : (⟨S_, .f32⟩ : BufTy).Contents (Elt F) :=
  constant S_ .f32 0x42FC0000#32
theorem val_main_cst_8_apply (i : S_.Idx) :
    val_main_cst_8 (F := F) i = FloatOps.ofBits .f32 0x42FC0000#32 := rfl

-- %48 = stablehlo.broadcast_in_dim %cst_8, dims = [] : (tensor<f32>) -> tensor<254xf32>
def val_main_v48 : (⟨S254, .f32⟩ : BufTy).Contents (Elt F) :=
  broadcastInDim S254 ![] bcast_S_S254 (val_main_cst_8 (F := F))
abbrev idx_main_v48 (i : S254.Idx) : S_.Idx := fun a => a.elim0
theorem val_main_v48_apply (i : S254.Idx) :
    val_main_v48 (F := F) i = val_main_cst_8 (F := F) (idx_main_v48 i) := by
  unfold val_main_v48
  generalize val_main_cst_8 (F := F) = y
  exact broadcastInDim_apply _ bcast_S_S254 y i (idx_main_v48 i) (fun a => a.elim0)

-- %49 = stablehlo.subtract %47, %48 : tensor<254xf32>
def val_main_v49 : (⟨S254, .f32⟩ : BufTy).Contents (Elt F) :=
  subf (val_main_v47 (F := F)) (val_main_v48 (F := F))
theorem val_main_v49_apply (i : S254.Idx) :
    val_main_v49 (F := F) i = FloatOps.subf (val_main_v47 (F := F) i) (val_main_v48 (F := F) i) := rfl

-- %50 = stablehlo.broadcast_in_dim %46, dims = [0, 1, 2] : (tensor<1x128x192xf32>) -> tensor<1x128x192x1xf32>
def val_main_v50 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x1, .f32⟩ : BufTy).Contents (Elt F) :=
  broadcastInDim S1x128x192x1 ![0, 1, 2] bcast_S1x128x192_S1x128x192x1_0_1_2 (val_main_v46 (F := F) x0 x1 x2 x3 x4)
abbrev idx_main_v50 (i : S1x128x192x1.Idx) : S1x128x192.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v50_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x1.Idx) :
    val_main_v50 (F := F) x0 x1 x2 x3 x4 i = val_main_v46 (F := F) x0 x1 x2 x3 x4 (idx_main_v50 i) := by
  unfold val_main_v50
  generalize val_main_v46 (F := F) x0 x1 x2 x3 x4 = y
  exact broadcastInDim_apply _ bcast_S1x128x192_S1x128x192x1_0_1_2 y i (idx_main_v50 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (192 : Nat) = 1 then 0 else (i 2).val; rw [if_neg (by decide)])

-- %cst_9 = stablehlo.constant dense<2.000000e+00> : tensor<f32>
def val_main_cst_9 : (⟨S_, .f32⟩ : BufTy).Contents (Elt F) :=
  constant S_ .f32 0x40000000#32
theorem val_main_cst_9_apply (i : S_.Idx) :
    val_main_cst_9 (F := F) i = FloatOps.ofBits .f32 0x40000000#32 := rfl

-- %51 = stablehlo.broadcast_in_dim %cst_9, dims = [] : (tensor<f32>) -> tensor<254xf32>
def val_main_v51 : (⟨S254, .f32⟩ : BufTy).Contents (Elt F) :=
  broadcastInDim S254 ![] bcast_S_S254 (val_main_cst_9 (F := F))
abbrev idx_main_v51 (i : S254.Idx) : S_.Idx := fun a => a.elim0
theorem val_main_v51_apply (i : S254.Idx) :
    val_main_v51 (F := F) i = val_main_cst_9 (F := F) (idx_main_v51 i) := by
  unfold val_main_v51
  generalize val_main_cst_9 (F := F) = y
  exact broadcastInDim_apply _ bcast_S_S254 y i (idx_main_v51 i) (fun a => a.elim0)

-- %52 = stablehlo.power %51, %49 : tensor<254xf32>
def val_main_v52 : (⟨S254, .f32⟩ : BufTy).Contents (Elt F) :=
  Host.powf (val_main_v51 (F := F)) (val_main_v49 (F := F))
theorem val_main_v52_apply (i : S254.Idx) :
    val_main_v52 (F := F) i = FloatOps.hostPowf (val_main_v51 (F := F) i) (val_main_v49 (F := F) i) := rfl

-- %53 = stablehlo.broadcast_in_dim %52, dims = [3] : (tensor<254xf32>) -> tensor<1x1x1x254xf32>
def val_main_v53 : (⟨S1x1x1x254, .f32⟩ : BufTy).Contents (Elt F) :=
  broadcastInDim S1x1x1x254 ![3] bcast_S254_S1x1x1x254_3 (val_main_v52 (F := F))
abbrev idx_main_v53 (i : S1x1x1x254.Idx) : S254.Idx := fun a => match a with
  | ⟨0, _⟩ => ⟨(i 3).val, (i 3).isLt⟩
theorem val_main_v53_apply (i : S1x1x1x254.Idx) :
    val_main_v53 (F := F) i = val_main_v52 (F := F) (idx_main_v53 i) := by
  unfold val_main_v53
  generalize val_main_v52 (F := F) = y
  exact broadcastInDim_apply _ bcast_S254_S1x1x1x254_3 y i (idx_main_v53 i) (fun a => match a with
    | ⟨0, _⟩ => by show (i 3).val = if (254 : Nat) = 1 then 0 else (i 3).val; rw [if_neg (by decide)])

-- %54 = stablehlo.broadcast_in_dim %50, dims = [0, 1, 2, 3] : (tensor<1x128x192x1xf32>) -> tensor<1x128x192x254xf32>
def val_main_v54 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x254, .f32⟩ : BufTy).Contents (Elt F) :=
  broadcastInDim S1x128x192x254 ![0, 1, 2, 3] bcast_S1x128x192x1_S1x128x192x254_0_1_2_3 (val_main_v50 (F := F) x0 x1 x2 x3 x4)
abbrev idx_main_v54 (i : S1x128x192x254.Idx) : S1x128x192x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨0, Nat.one_pos⟩
theorem val_main_v54_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x254.Idx) :
    val_main_v54 (F := F) x0 x1 x2 x3 x4 i = val_main_v50 (F := F) x0 x1 x2 x3 x4 (idx_main_v54 i) := by
  unfold val_main_v54
  generalize val_main_v50 (F := F) x0 x1 x2 x3 x4 = y
  exact broadcastInDim_apply _ bcast_S1x128x192x1_S1x128x192x254_0_1_2_3 y i (idx_main_v54 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (192 : Nat) = 1 then 0 else (i 2).val; rw [if_neg (by decide)]
    | ⟨3, _⟩ => by show 0 = if (1 : Nat) = 1 then 0 else (i 3).val; rw [if_pos rfl])

-- %55 = stablehlo.broadcast_in_dim %53, dims = [0, 1, 2, 3] : (tensor<1x1x1x254xf32>) -> tensor<1x128x192x254xf32>
def val_main_v55 : (⟨S1x128x192x254, .f32⟩ : BufTy).Contents (Elt F) :=
  broadcastInDim S1x128x192x254 ![0, 1, 2, 3] bcast_S1x1x1x254_S1x128x192x254_0_1_2_3 (val_main_v53 (F := F))
abbrev idx_main_v55 (i : S1x128x192x254.Idx) : S1x1x1x254.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
theorem val_main_v55_apply (i : S1x128x192x254.Idx) :
    val_main_v55 (F := F) i = val_main_v53 (F := F) (idx_main_v55 i) := by
  unfold val_main_v55
  generalize val_main_v53 (F := F) = y
  exact broadcastInDim_apply _ bcast_S1x1x1x254_S1x128x192x254_0_1_2_3 y i (idx_main_v55 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (254 : Nat) = 1 then 0 else (i 3).val; rw [if_neg (by decide)])

-- %56 = stablehlo.compare LT, %54, %55, FLOAT : (tensor<1x128x192x254xf32>, tensor<1x128x192x254xf32>) -> tensor<1x128x192x254xi1>
def val_main_v56 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x254, .i1⟩ : BufTy).Contents (Elt F) :=
  cmpf .olt (val_main_v54 (F := F) x0 x1 x2 x3 x4) (val_main_v55 (F := F))
theorem val_main_v56_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x254.Idx) :
    val_main_v56 (F := F) x0 x1 x2 x3 x4 i = FloatOps.cmpf .olt (val_main_v54 (F := F) x0 x1 x2 x3 x4 i) (val_main_v55 (F := F) i) := rfl

-- %cst_10 = stablehlo.constant dense<0x7F800000> : tensor<f32>
def val_main_cst_10 : (⟨S_, .f32⟩ : BufTy).Contents (Elt F) :=
  constant S_ .f32 0x7F800000#32
theorem val_main_cst_10_apply (i : S_.Idx) :
    val_main_cst_10 (F := F) i = FloatOps.ofBits .f32 0x7F800000#32 := rfl

-- @_where's %0 = stablehlo.convert %arg2 : tensor<f32>, in %57 = func.call @_where(…) (record main_call1)
def val_main_call1_v0 : (⟨S_, .f32⟩ : BufTy).Contents (Elt F) :=
  id (val_main_cst_10 (F := F))
theorem val_main_call1_v0_apply (i : S_.Idx) :
    val_main_call1_v0 (F := F) i = (val_main_cst_10 (F := F) i) := rfl

-- @_where's %1 = stablehlo.broadcast_in_dim %arg1, dims = [3] : (tensor<254xf32>) -> tensor<1x128x192x254xf32>, in %57 = func.call @_where(…) (record main_call1)
def val_main_call1_v1 : (⟨S1x128x192x254, .f32⟩ : BufTy).Contents (Elt F) :=
  broadcastInDim S1x128x192x254 ![3] bcast_S254_S1x128x192x254_3 (val_main_v49 (F := F))
abbrev idx_main_call1_v1 (i : S1x128x192x254.Idx) : S254.Idx := fun a => match a with
  | ⟨0, _⟩ => ⟨(i 3).val, (i 3).isLt⟩
theorem val_main_call1_v1_apply (i : S1x128x192x254.Idx) :
    val_main_call1_v1 (F := F) i = val_main_v49 (F := F) (idx_main_call1_v1 i) := by
  unfold val_main_call1_v1
  generalize val_main_v49 (F := F) = y
  exact broadcastInDim_apply _ bcast_S254_S1x128x192x254_3 y i (idx_main_call1_v1 i) (fun a => match a with
    | ⟨0, _⟩ => by show (i 3).val = if (254 : Nat) = 1 then 0 else (i 3).val; rw [if_neg (by decide)])

-- @_where's %2 = stablehlo.broadcast_in_dim %0, dims = [] : (tensor<f32>) -> tensor<1x128x192x254xf32>, in %57 = func.call @_where(…) (record main_call1)
def val_main_call1_v2 : (⟨S1x128x192x254, .f32⟩ : BufTy).Contents (Elt F) :=
  broadcastInDim S1x128x192x254 ![] bcast_S_S1x128x192x254 (val_main_call1_v0 (F := F))
abbrev idx_main_call1_v2 (i : S1x128x192x254.Idx) : S_.Idx := fun a => a.elim0
theorem val_main_call1_v2_apply (i : S1x128x192x254.Idx) :
    val_main_call1_v2 (F := F) i = val_main_call1_v0 (F := F) (idx_main_call1_v2 i) := by
  unfold val_main_call1_v2
  generalize val_main_call1_v0 (F := F) = y
  exact broadcastInDim_apply _ bcast_S_S1x128x192x254 y i (idx_main_call1_v2 i) (fun a => a.elim0)

-- %57 = func.call @_where(…) (record main_call1) result 0: @_where's %3 = stablehlo.select %arg0, %1, %2 : tensor<1x128x192x254xi1>, tensor<1x128x192x254xf32>
def val_main_v57 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x254, .f32⟩ : BufTy).Contents (Elt F) :=
  select (val_main_v56 (F := F) x0 x1 x2 x3 x4) (val_main_call1_v1 (F := F)) (val_main_call1_v2 (F := F))
theorem val_main_v57_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x254.Idx) :
    val_main_v57 (F := F) x0 x1 x2 x3 x4 i = Scalar.select (val_main_v56 (F := F) x0 x1 x2 x3 x4 i) (val_main_call1_v1 (F := F) i) (val_main_call1_v2 (F := F) i) := rfl

-- %cst_11 = stablehlo.constant dense<0x7F800000> : tensor<f32>
def val_main_cst_11 : (⟨S_, .f32⟩ : BufTy).Contents (Elt F) :=
  constant S_ .f32 0x7F800000#32
theorem val_main_cst_11_apply (i : S_.Idx) :
    val_main_cst_11 (F := F) i = FloatOps.ofBits .f32 0x7F800000#32 := rfl

-- %58 = stablehlo.reduce(%57 init: %cst_11) applies stablehlo.minimum across dimensions = [3] : (tensor<1x128x192x254xf32>, tensor<f32>) -> tensor<1x128x192xf32> {
def val_main_v58 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  Host.reduce FloatOps.minimumf (val_main_v57 (F := F) x0 x1 x2 x3 x4) (val_main_cst_11 (F := F)) reducesTo_S1x128x192x254_S1x128x192_d3 h_S_

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- %59 = stablehlo.broadcast_in_dim %cst_12, dims = [] : (tensor<f32>) -> tensor<1x128x192xf32>
def val_main_v59 : (⟨S1x128x192, .f32⟩ : BufTy).Contents (Elt F) :=
  broadcastInDim S1x128x192 ![] bcast_S_S1x128x192 (val_main_cst_12 (F := F))
abbrev idx_main_v59 (i : S1x128x192.Idx) : S_.Idx := fun a => a.elim0
theorem val_main_v59_apply (i : S1x128x192.Idx) :
    val_main_v59 (F := F) i = val_main_cst_12 (F := F) (idx_main_v59 i) := by
  unfold val_main_v59
  generalize val_main_cst_12 (F := F) = y
  exact broadcastInDim_apply _ bcast_S_S1x128x192 y i (idx_main_v59 i) (fun a => a.elim0)

-- %60 = stablehlo.compare EQ, %44, %59, FLOAT : (tensor<1x128x192xf32>, tensor<1x128x192xf32>) -> tensor<1x128x192xi1>
def val_main_v60 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .i1⟩ : BufTy).Contents (Elt F) :=
  cmpf .oeq (val_main_v44 (F := F) x0 x1 x2 x3 x4) (val_main_v59 (F := F))
theorem val_main_v60_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192.Idx) :
    val_main_v60 (F := F) x0 x1 x2 x3 x4 i = FloatOps.cmpf .oeq (val_main_v44 (F := F) x0 x1 x2 x3 x4 i) (val_main_v59 (F := F) i) := rfl

-- %cst_13 = stablehlo.constant dense<0.000000e+00> : tensor<f32>
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

-- @_where_0's %0 = stablehlo.convert %arg1 : tensor<f32>, in %61 = func.call @_where_0(…) (record main_call2)
def val_main_call2_v0 : (⟨S_, .f32⟩ : BufTy).Contents (Elt F) :=
  id (val_main_cst_13 (F := F))
theorem val_main_call2_v0_apply (i : S_.Idx) :
    val_main_call2_v0 (F := F) i = (val_main_cst_13 (F := F) i) := rfl

-- @_where_0's %1 = stablehlo.broadcast_in_dim %0, dims = [] : (tensor<f32>) -> tensor<1x128x192xf32>, in %61 = func.call @_where_0(…) (record main_call2)
def val_main_call2_v1 : (⟨S1x128x192, .f32⟩ : BufTy).Contents (Elt F) :=
  broadcastInDim S1x128x192 ![] bcast_S_S1x128x192 (val_main_call2_v0 (F := F))
abbrev idx_main_call2_v1 (i : S1x128x192.Idx) : S_.Idx := fun a => a.elim0
theorem val_main_call2_v1_apply (i : S1x128x192.Idx) :
    val_main_call2_v1 (F := F) i = val_main_call2_v0 (F := F) (idx_main_call2_v1 i) := by
  unfold val_main_call2_v1
  generalize val_main_call2_v0 (F := F) = y
  exact broadcastInDim_apply _ bcast_S_S1x128x192 y i (idx_main_call2_v1 i) (fun a => a.elim0)

-- %61 = func.call @_where_0(…) (record main_call2) result 0: @_where_0's %2 = stablehlo.select %arg0, %1, %arg2 : tensor<1x128x192xi1>, tensor<1x128x192xf32>
def val_main_v61 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  select (val_main_v60 (F := F) x0 x1 x2 x3 x4) (val_main_call2_v1 (F := F)) (val_main_v58 (F := F) x0 x1 x2 x3 x4)
theorem val_main_v61_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192.Idx) :
    val_main_v61 (F := F) x0 x1 x2 x3 x4 i = Scalar.select (val_main_v60 (F := F) x0 x1 x2 x3 x4 i) (val_main_call2_v1 (F := F) i) (val_main_v58 (F := F) x0 x1 x2 x3 x4 i) := rfl

-- %cst_14 = stablehlo.constant dense<2.000000e+00> : tensor<f32>
def val_main_cst_14 : (⟨S_, .f32⟩ : BufTy).Contents (Elt F) :=
  constant S_ .f32 0x40000000#32
theorem val_main_cst_14_apply (i : S_.Idx) :
    val_main_cst_14 (F := F) i = FloatOps.ofBits .f32 0x40000000#32 := rfl

-- %62 = stablehlo.broadcast_in_dim %cst_14, dims = [] : (tensor<f32>) -> tensor<1x128x192xf32>
def val_main_v62 : (⟨S1x128x192, .f32⟩ : BufTy).Contents (Elt F) :=
  broadcastInDim S1x128x192 ![] bcast_S_S1x128x192 (val_main_cst_14 (F := F))
abbrev idx_main_v62 (i : S1x128x192.Idx) : S_.Idx := fun a => a.elim0
theorem val_main_v62_apply (i : S1x128x192.Idx) :
    val_main_v62 (F := F) i = val_main_cst_14 (F := F) (idx_main_v62 i) := by
  unfold val_main_v62
  generalize val_main_cst_14 (F := F) = y
  exact broadcastInDim_apply _ bcast_S_S1x128x192 y i (idx_main_v62 i) (fun a => a.elim0)

-- %63 = stablehlo.power %62, %61 : tensor<1x128x192xf32>
def val_main_v63 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  Host.powf (val_main_v62 (F := F)) (val_main_v61 (F := F) x0 x1 x2 x3 x4)
theorem val_main_v63_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192.Idx) :
    val_main_v63 (F := F) x0 x1 x2 x3 x4 i = FloatOps.hostPowf (val_main_v62 (F := F) i) (val_main_v61 (F := F) x0 x1 x2 x3 x4 i) := rfl

-- %64 = stablehlo.negate %61 : tensor<1x128x192xf32>
def val_main_v64 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  Host.negf (val_main_v61 (F := F) x0 x1 x2 x3 x4)
theorem val_main_v64_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192.Idx) :
    val_main_v64 (F := F) x0 x1 x2 x3 x4 i = FloatOps.hostNegf (val_main_v61 (F := F) x0 x1 x2 x3 x4 i) := rfl

-- %cst_15 = stablehlo.constant dense<2.000000e+00> : tensor<f32>
def val_main_cst_15 : (⟨S_, .f32⟩ : BufTy).Contents (Elt F) :=
  constant S_ .f32 0x40000000#32
theorem val_main_cst_15_apply (i : S_.Idx) :
    val_main_cst_15 (F := F) i = FloatOps.ofBits .f32 0x40000000#32 := rfl

-- %65 = stablehlo.broadcast_in_dim %cst_15, dims = [] : (tensor<f32>) -> tensor<1x128x192xf32>
def val_main_v65 : (⟨S1x128x192, .f32⟩ : BufTy).Contents (Elt F) :=
  broadcastInDim S1x128x192 ![] bcast_S_S1x128x192 (val_main_cst_15 (F := F))
abbrev idx_main_v65 (i : S1x128x192.Idx) : S_.Idx := fun a => a.elim0
theorem val_main_v65_apply (i : S1x128x192.Idx) :
    val_main_v65 (F := F) i = val_main_cst_15 (F := F) (idx_main_v65 i) := by
  unfold val_main_v65
  generalize val_main_cst_15 (F := F) = y
  exact broadcastInDim_apply _ bcast_S_S1x128x192 y i (idx_main_v65 i) (fun a => a.elim0)

-- %66 = stablehlo.power %65, %64 : tensor<1x128x192xf32>
def val_main_v66 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192, .f32⟩ : BufTy).Contents (Elt F) :=
  Host.powf (val_main_v65 (F := F)) (val_main_v64 (F := F) x0 x1 x2 x3 x4)
theorem val_main_v66_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192.Idx) :
    val_main_v66 (F := F) x0 x1 x2 x3 x4 i = FloatOps.hostPowf (val_main_v65 (F := F) i) (val_main_v64 (F := F) x0 x1 x2 x3 x4 i) := rfl

-- %67 = stablehlo.broadcast_in_dim %66, dims = [0, 1, 2] : (tensor<1x128x192xf32>) -> tensor<1x128x192x1xf32>
def val_main_v67 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x1, .f32⟩ : BufTy).Contents (Elt F) :=
  broadcastInDim S1x128x192x1 ![0, 1, 2] bcast_S1x128x192_S1x128x192x1_0_1_2 (val_main_v66 (F := F) x0 x1 x2 x3 x4)
abbrev idx_main_v67 (i : S1x128x192x1.Idx) : S1x128x192.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v67_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x1.Idx) :
    val_main_v67 (F := F) x0 x1 x2 x3 x4 i = val_main_v66 (F := F) x0 x1 x2 x3 x4 (idx_main_v67 i) := by
  unfold val_main_v67
  generalize val_main_v66 (F := F) x0 x1 x2 x3 x4 = y
  exact broadcastInDim_apply _ bcast_S1x128x192_S1x128x192x1_0_1_2 y i (idx_main_v67 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (192 : Nat) = 1 then 0 else (i 2).val; rw [if_neg (by decide)])

-- %68 = stablehlo.broadcast_in_dim %67, dims = [0, 1, 2, 3] : (tensor<1x128x192x1xf32>) -> tensor<1x128x192x128xf32>
def val_main_v68 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x128, .f32⟩ : BufTy).Contents (Elt F) :=
  broadcastInDim S1x128x192x128 ![0, 1, 2, 3] bcast_S1x128x192x1_S1x128x192x128_0_1_2_3 (val_main_v67 (F := F) x0 x1 x2 x3 x4)
abbrev idx_main_v68 (i : S1x128x192x128.Idx) : S1x128x192x1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨0, Nat.one_pos⟩
theorem val_main_v68_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x128.Idx) :
    val_main_v68 (F := F) x0 x1 x2 x3 x4 i = val_main_v67 (F := F) x0 x1 x2 x3 x4 (idx_main_v68 i) := by
  unfold val_main_v68
  generalize val_main_v67 (F := F) x0 x1 x2 x3 x4 = y
  exact broadcastInDim_apply _ bcast_S1x128x192x1_S1x128x192x128_0_1_2_3 y i (idx_main_v68 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show (i 2).val = if (192 : Nat) = 1 then 0 else (i 2).val; rw [if_neg (by decide)]
    | ⟨3, _⟩ => by show 0 = if (1 : Nat) = 1 then 0 else (i 3).val; rw [if_pos rfl])

-- %69 = stablehlo.multiply %42, %68 : tensor<1x128x192x128xf32>
def val_main_v69 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x128, .f32⟩ : BufTy).Contents (Elt F) :=
  mulf (val_main_v42 (F := F) x0 x1 x2 x3 x4) (val_main_v68 (F := F) x0 x1 x2 x3 x4)
theorem val_main_v69_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x128.Idx) :
    val_main_v69 (F := F) x0 x1 x2 x3 x4 i = FloatOps.mulf (val_main_v42 (F := F) x0 x1 x2 x3 x4 i) (val_main_v68 (F := F) x0 x1 x2 x3 x4 i) := rfl

-- %cst_16 = stablehlo.constant dense<-4.480000e+02> : tensor<f32>
def val_main_cst_16 : (⟨S_, .f32⟩ : BufTy).Contents (Elt F) :=
  constant S_ .f32 0xC3E00000#32
theorem val_main_cst_16_apply (i : S_.Idx) :
    val_main_cst_16 (F := F) i = FloatOps.ofBits .f32 0xC3E00000#32 := rfl

-- %cst_17 = stablehlo.constant dense<4.480000e+02> : tensor<f32>
def val_main_cst_17 : (⟨S_, .f32⟩ : BufTy).Contents (Elt F) :=
  constant S_ .f32 0x43E00000#32
theorem val_main_cst_17_apply (i : S_.Idx) :
    val_main_cst_17 (F := F) i = FloatOps.ofBits .f32 0x43E00000#32 := rfl

-- @clip's %0 = stablehlo.convert %arg1 : tensor<f32>, in %70 = func.call @clip(…) (record main_call3)
def val_main_call3_v0 : (⟨S_, .f32⟩ : BufTy).Contents (Elt F) :=
  id (val_main_cst_16 (F := F))
theorem val_main_call3_v0_apply (i : S_.Idx) :
    val_main_call3_v0 (F := F) i = (val_main_cst_16 (F := F) i) := rfl

-- @clip's %1 = stablehlo.broadcast_in_dim %0, dims = [] : (tensor<f32>) -> tensor<1x128x192x128xf32>, in %70 = func.call @clip(…) (record main_call3)
def val_main_call3_v1 : (⟨S1x128x192x128, .f32⟩ : BufTy).Contents (Elt F) :=
  broadcastInDim S1x128x192x128 ![] bcast_S_S1x128x192x128 (val_main_call3_v0 (F := F))
abbrev idx_main_call3_v1 (i : S1x128x192x128.Idx) : S_.Idx := fun a => a.elim0
theorem val_main_call3_v1_apply (i : S1x128x192x128.Idx) :
    val_main_call3_v1 (F := F) i = val_main_call3_v0 (F := F) (idx_main_call3_v1 i) := by
  unfold val_main_call3_v1
  generalize val_main_call3_v0 (F := F) = y
  exact broadcastInDim_apply _ bcast_S_S1x128x192x128 y i (idx_main_call3_v1 i) (fun a => a.elim0)

-- @clip's %2 = stablehlo.maximum %1, %arg0 : tensor<1x128x192x128xf32>, in %70 = func.call @clip(…) (record main_call3)
def val_main_call3_v2 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x128, .f32⟩ : BufTy).Contents (Elt F) :=
  maximumf (val_main_call3_v1 (F := F)) (val_main_v69 (F := F) x0 x1 x2 x3 x4)
theorem val_main_call3_v2_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x128.Idx) :
    val_main_call3_v2 (F := F) x0 x1 x2 x3 x4 i = FloatOps.maximumf (val_main_call3_v1 (F := F) i) (val_main_v69 (F := F) x0 x1 x2 x3 x4 i) := rfl

-- @clip's %3 = stablehlo.convert %arg2 : tensor<f32>, in %70 = func.call @clip(…) (record main_call3)
def val_main_call3_v3 : (⟨S_, .f32⟩ : BufTy).Contents (Elt F) :=
  id (val_main_cst_17 (F := F))
theorem val_main_call3_v3_apply (i : S_.Idx) :
    val_main_call3_v3 (F := F) i = (val_main_cst_17 (F := F) i) := rfl

-- @clip's %4 = stablehlo.broadcast_in_dim %3, dims = [] : (tensor<f32>) -> tensor<1x128x192x128xf32>, in %70 = func.call @clip(…) (record main_call3)
def val_main_call3_v4 : (⟨S1x128x192x128, .f32⟩ : BufTy).Contents (Elt F) :=
  broadcastInDim S1x128x192x128 ![] bcast_S_S1x128x192x128 (val_main_call3_v3 (F := F))
abbrev idx_main_call3_v4 (i : S1x128x192x128.Idx) : S_.Idx := fun a => a.elim0
theorem val_main_call3_v4_apply (i : S1x128x192x128.Idx) :
    val_main_call3_v4 (F := F) i = val_main_call3_v3 (F := F) (idx_main_call3_v4 i) := by
  unfold val_main_call3_v4
  generalize val_main_call3_v3 (F := F) = y
  exact broadcastInDim_apply _ bcast_S_S1x128x192x128 y i (idx_main_call3_v4 i) (fun a => a.elim0)

-- %70 = func.call @clip(…) (record main_call3) result 0: @clip's %5 = stablehlo.minimum %4, %2 : tensor<1x128x192x128xf32>
def val_main_v70 (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) : (⟨S1x128x192x128, .f32⟩ : BufTy).Contents (Elt F) :=
  minimumf (val_main_call3_v4 (F := F)) (val_main_call3_v2 (F := F) x0 x1 x2 x3 x4)
theorem val_main_v70_apply (x0 : (⟨S1x128x12288, .bf16⟩ : BufTy).Contents (Elt F)) (x1 : (⟨S6144x24576, .i8⟩ : BufTy).Contents (Elt F)) (x2 : (⟨S96x24576, .bf16⟩ : BufTy).Contents (Elt F)) (x3 : (⟨S6144x24576, .i8⟩ : BufTy).Contents (Elt F)) (x4 : (⟨S96x24576, .bf16⟩ : BufTy).Contents (Elt F)) (i : S1x128x192x128.Idx) :
    val_main_v70 (F := F) x0 x1 x2 x3 x4 i = FloatOps.minimumf (val_main_call3_v4 (F := F) i) (val_main_call3_v2 (F := F) x0 x1 x2 x3 x4 i) := rfl

end Cert.ReferenceIdeal.Read

end
-- ==== Proof.KShape.lean ====
/- What one step of the kernel's block computes, as a formula over whole vectors: the twelve chunks of each accumulator, the
   gated product, and the quantised halves. Each theorem here says that the body's own values are those formulas. -/
module

public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.SL.Sem

variable {F : FTy → Type} [FloatOps F]

/-- The int4 values of a chunk of packed bytes, as integers. -/
def nibbles (v : Vec F S512x256 .i8) : IVec S1024x256 32 :=
  shapeCast S1024x256
    (shrsi (shli (broadcastTo S128x8x256 (shapeCast S128x1x256 (shapeCast S128x1x256
        (xori (bitcast S128x256 32 v bitcasts_S512x256_w8_S128x256_w32) (broadcast S128x256 2290649224#32))
        shapeCasts_S128x256_S128x1x256) shapeCasts_S128x1x256_S128x1x256) broadcasts_S128x1x256_S128x8x256)
      (subi (broadcast S128x8x256 28#32) (muli (broadcast S128x8x256 4#32) (iota .tc S128x8x256 32 [1] iota_S128x8x256_d1_w32))))
      (broadcast S128x8x256 28#32))
    shapeCasts_S128x8x256_S1024x256

/-- The eight scaled groups of a chunk, in order. -/
def slabs (v : Vec F S512x256 .i8) (s0 s1 s2 s3 s4 s5 s6 s7 : Vec F S1x256 .bf16) : Fin 8 → FVec F S128x256 .bf16 :=
  ![mulf (extractStridedSlice S128x256 ![0, 0] (sitofp .bf16 (nibbles v)) slices_S1024x256_o0_0_S128x256) (broadcastTo S128x256 s0 broadcasts_S1x256_S128x256),
    mulf (extractStridedSlice S128x256 ![128, 0] (sitofp .bf16 (nibbles v)) slices_S1024x256_o128_0_S128x256) (broadcastTo S128x256 s1 broadcasts_S1x256_S128x256),
    mulf (extractStridedSlice S128x256 ![256, 0] (sitofp .bf16 (nibbles v)) slices_S1024x256_o256_0_S128x256) (broadcastTo S128x256 s2 broadcasts_S1x256_S128x256),
    mulf (extractStridedSlice S128x256 ![384, 0] (sitofp .bf16 (nibbles v)) slices_S1024x256_o384_0_S128x256) (broadcastTo S128x256 s3 broadcasts_S1x256_S128x256),
    mulf (extractStridedSlice S128x256 ![512, 0] (sitofp .bf16 (nibbles v)) slices_S1024x256_o512_0_S128x256) (broadcastTo S128x256 s4 broadcasts_S1x256_S128x256),
    mulf (extractStridedSlice S128x256 ![640, 0] (sitofp .bf16 (nibbles v)) slices_S1024x256_o640_0_S128x256) (broadcastTo S128x256 s5 broadcasts_S1x256_S128x256),
    mulf (extractStridedSlice S128x256 ![768, 0] (sitofp .bf16 (nibbles v)) slices_S1024x256_o768_0_S128x256) (broadcastTo S128x256 s6 broadcasts_S1x256_S128x256),
    mulf (extractStridedSlice S128x256 ![896, 0] (sitofp .bf16 (nibbles v)) slices_S1024x256_o896_0_S128x256) (broadcastTo S128x256 s7 broadcasts_S1x256_S128x256)]

/-- The dequantised weights of a chunk. -/
def wt (v : Vec F S512x256 .i8) (s0 s1 s2 s3 s4 s5 s6 s7 : Vec F S1x256 .bf16) : FVec F S1024x256 .bf16 :=
  concatenate S1024x256 0 [⟨S128x256, mulf (extractStridedSlice S128x256 ![0, 0] (sitofp .bf16 (nibbles v)) slices_S1024x256_o0_0_S128x256) (broadcastTo S128x256 s0 broadcasts_S1x256_S128x256)⟩, ⟨S128x256, mulf (extractStridedSlice S128x256 ![128, 0] (sitofp .bf16 (nibbles v)) slices_S1024x256_o128_0_S128x256) (broadcastTo S128x256 s1 broadcasts_S1x256_S128x256)⟩, ⟨S128x256, mulf (extractStridedSlice S128x256 ![256, 0] (sitofp .bf16 (nibbles v)) slices_S1024x256_o256_0_S128x256) (broadcastTo S128x256 s2 broadcasts_S1x256_S128x256)⟩, ⟨S128x256, mulf (extractStridedSlice S128x256 ![384, 0] (sitofp .bf16 (nibbles v)) slices_S1024x256_o384_0_S128x256) (broadcastTo S128x256 s3 broadcasts_S1x256_S128x256)⟩, ⟨S128x256, mulf (extractStridedSlice S128x256 ![512, 0] (sitofp .bf16 (nibbles v)) slices_S1024x256_o512_0_S128x256) (broadcastTo S128x256 s4 broadcasts_S1x256_S128x256)⟩, ⟨S128x256, mulf (extractStridedSlice S128x256 ![640, 0] (sitofp .bf16 (nibbles v)) slices_S1024x256_o640_0_S128x256) (broadcastTo S128x256 s5 broadcasts_S1x256_S128x256)⟩, ⟨S128x256, mulf (extractStridedSlice S128x256 ![768, 0] (sitofp .bf16 (nibbles v)) slices_S1024x256_o768_0_S128x256) (broadcastTo S128x256 s6 broadcasts_S1x256_S128x256)⟩, ⟨S128x256, mulf (extractStridedSlice S128x256 ![896, 0] (sitofp .bf16 (nibbles v)) slices_S1024x256_o896_0_S128x256) (broadcastTo S128x256 s7 broadcasts_S1x256_S128x256)⟩]
    concatenates_S128x256_S128x256_S128x256_S128x256_S128x256_S128x256_S128x256_S128x256_S1024x256_d0

/-- One chunk of a product added to an accumulator. -/
def step (acc : FVec F S128x256 .f32) (x : FVec F S128x1024 .bf16) (v : Vec F S512x256 .i8) (s0 s1 s2 s3 s4 s5 s6 s7 : Vec F S1x256 .bf16) : FVec F S128x256 .f32 :=
  addf acc (matmul dot_S128x1024_S1024x256_S128x256_1_0_0_1_n_n none (shapeCast S128x1024 x shapeCasts_S128x1024_S128x1024)
    (wt v s0 s1 s2 s3 s4 s5 s6 s7) (constant S128x256 .f32 0x00000000#32))

variable (x0 : Vec F S128x12288 .bf16) (x1 : Vec F S6144x256 .i8) (x2 : Vec F S96x256 .bf16) (x3 : Vec F S6144x256 .i8) (x4 : Vec F S96x256 .bf16)

/-- The accumulator before the first chunk. -/
def acc0 : FVec F S128x256 .f32 := broadcast S128x256 (Scalar.ofBits .f32 0x00000000#32)
/-- The accumulator of one projection after 1 chunk. -/
def acc1 (x : Vec F S128x12288 .bf16) (w : Vec F S6144x256 .i8) (s : Vec F S96x256 .bf16) : FVec F S128x256 .f32 :=
  step acc0 (View.ld x r0_0) (View.ld w r0_1) (View.ld s r0_2) (View.ld s r0_3) (View.ld s r0_4) (View.ld s r0_5) (View.ld s r0_6) (View.ld s r0_7) (View.ld s r0_8) (View.ld s r0_9)
/-- The accumulator of one projection after 2 chunks. -/
def acc2 (x : Vec F S128x12288 .bf16) (w : Vec F S6144x256 .i8) (s : Vec F S96x256 .bf16) : FVec F S128x256 .f32 :=
  step (acc1 x w s) (View.ld x r0_10) (View.ld w r0_11) (View.ld s r0_12) (View.ld s r0_13) (View.ld s r0_14) (View.ld s r0_15) (View.ld s r0_16) (View.ld s r0_17) (View.ld s r0_18) (View.ld s r0_19)
/-- The accumulator of one projection after 3 chunks. -/
def acc3 (x : Vec F S128x12288 .bf16) (w : Vec F S6144x256 .i8) (s : Vec F S96x256 .bf16) : FVec F S128x256 .f32 :=
  step (acc2 x w s) (View.ld x r0_20) (View.ld w r0_21) (View.ld s r0_22) (View.ld s r0_23) (View.ld s r0_24) (View.ld s r0_25) (View.ld s r0_26) (View.ld s r0_27) (View.ld s r0_28) (View.ld s r0_29)
/-- The accumulator of one projection after 4 chunks. -/
def acc4 (x : Vec F S128x12288 .bf16) (w : Vec F S6144x256 .i8) (s : Vec F S96x256 .bf16) : FVec F S128x256 .f32 :=
  step (acc3 x w s) (View.ld x r0_30) (View.ld w r0_31) (View.ld s r0_32) (View.ld s r0_33) (View.ld s r0_34) (View.ld s r0_35) (View.ld s r0_36) (View.ld s r0_37) (View.ld s r0_38) (View.ld s r0_39)
/-- The accumulator of one projection after 5 chunks. -/
def acc5 (x : Vec F S128x12288 .bf16) (w : Vec F S6144x256 .i8) (s : Vec F S96x256 .bf16) : FVec F S128x256 .f32 :=
  step (acc4 x w s) (View.ld x r0_40) (View.ld w r0_41) (View.ld s r0_42) (View.ld s r0_43) (View.ld s r0_44) (View.ld s r0_45) (View.ld s r0_46) (View.ld s r0_47) (View.ld s r0_48) (View.ld s r0_49)
/-- The accumulator of one projection after 6 chunks. -/
def acc6 (x : Vec F S128x12288 .bf16) (w : Vec F S6144x256 .i8) (s : Vec F S96x256 .bf16) : FVec F S128x256 .f32 :=
  step (acc5 x w s) (View.ld x r0_50) (View.ld w r0_51) (View.ld s r0_52) (View.ld s r0_53) (View.ld s r0_54) (View.ld s r0_55) (View.ld s r0_56) (View.ld s r0_57) (View.ld s r0_58) (View.ld s r0_59)
/-- The accumulator of one projection after 7 chunks. -/
def acc7 (x : Vec F S128x12288 .bf16) (w : Vec F S6144x256 .i8) (s : Vec F S96x256 .bf16) : FVec F S128x256 .f32 :=
  step (acc6 x w s) (View.ld x r0_60) (View.ld w r0_61) (View.ld s r0_62) (View.ld s r0_63) (View.ld s r0_64) (View.ld s r0_65) (View.ld s r0_66) (View.ld s r0_67) (View.ld s r0_68) (View.ld s r0_69)
/-- The accumulator of one projection after 8 chunks. -/
def acc8 (x : Vec F S128x12288 .bf16) (w : Vec F S6144x256 .i8) (s : Vec F S96x256 .bf16) : FVec F S128x256 .f32 :=
  step (acc7 x w s) (View.ld x r0_70) (View.ld w r0_71) (View.ld s r0_72) (View.ld s r0_73) (View.ld s r0_74) (View.ld s r0_75) (View.ld s r0_76) (View.ld s r0_77) (View.ld s r0_78) (View.ld s r0_79)
/-- The accumulator of one projection after 9 chunks. -/
def acc9 (x : Vec F S128x12288 .bf16) (w : Vec F S6144x256 .i8) (s : Vec F S96x256 .bf16) : FVec F S128x256 .f32 :=
  step (acc8 x w s) (View.ld x r0_80) (View.ld w r0_81) (View.ld s r0_82) (View.ld s r0_83) (View.ld s r0_84) (View.ld s r0_85) (View.ld s r0_86) (View.ld s r0_87) (View.ld s r0_88) (View.ld s r0_89)
/-- The accumulator of one projection after 10 chunks. -/
def acc10 (x : Vec F S128x12288 .bf16) (w : Vec F S6144x256 .i8) (s : Vec F S96x256 .bf16) : FVec F S128x256 .f32 :=
  step (acc9 x w s) (View.ld x r0_90) (View.ld w r0_91) (View.ld s r0_92) (View.ld s r0_93) (View.ld s r0_94) (View.ld s r0_95) (View.ld s r0_96) (View.ld s r0_97) (View.ld s r0_98) (View.ld s r0_99)
/-- The accumulator of one projection after 11 chunks. -/
def acc11 (x : Vec F S128x12288 .bf16) (w : Vec F S6144x256 .i8) (s : Vec F S96x256 .bf16) : FVec F S128x256 .f32 :=
  step (acc10 x w s) (View.ld x r0_100) (View.ld w r0_101) (View.ld s r0_102) (View.ld s r0_103) (View.ld s r0_104) (View.ld s r0_105) (View.ld s r0_106) (View.ld s r0_107) (View.ld s r0_108) (View.ld s r0_109)
/-- The accumulator of one projection after 12 chunks. -/
def acc12 (x : Vec F S128x12288 .bf16) (w : Vec F S6144x256 .i8) (s : Vec F S96x256 .bf16) : FVec F S128x256 .f32 :=
  step (acc11 x w s) (View.ld x r0_110) (View.ld w r0_111) (View.ld s r0_112) (View.ld s r0_113) (View.ld s r0_114) (View.ld s r0_115) (View.ld s r0_116) (View.ld s r0_117) (View.ld s r0_118) (View.ld s r0_119)

set_option maxHeartbeats 4000000 in
/-- The gate's accumulator. -/
theorem gate_eq : k0_pay185 x0 x1 x2 x3 x4 = acc12 x0 x1 x2 := rfl

set_option maxHeartbeats 4000000 in
/-- The up projection's accumulator before its last chunk. -/
theorem up_eq : k0_pay183 x0 x1 x2 x3 x4 = acc11 x0 x3 x4 := rfl

/-- The gated product of a block. -/
def hid : FVec F S128x256 .f32 :=
  mulf (mulf (acc12 x0 x1 x2) (logistic (acc12 x0 x1 x2))) (acc12 x0 x3 x4)

set_option maxHeartbeats 4000000 in
/-- The body's gated product. -/
theorem hid_eq : k0_pay187 x0 x1 x2 x3 x4 = hid x0 x1 x2 x3 x4 := by
  unfold k0_pay187 hid
  rw [gate_eq, up_eq]
  rfl

end Cert.KernelIdeal.Block
-- ==== Proof.Nibble.lean ====
/- A packed int4 value. A byte holds two of them, each as its value plus eight; the kernel reads eight of them out of a word
   of four bytes with a left shift and an arithmetic right shift, the reference out of one byte with a mask and a right shift. -/
module

public import Idealize.ShloMosaic.Lib.BitcastFour
public import Idealize.ShloMosaic.PureOps.Ideal.Laws

@[expose] public section

noncomputable section

namespace Cert.Nibble

open Idealize.ShloMosaic

/-- The integer in half `p` of a byte: half 0 is the low four bits. -/
def nib (b : BitVec 8) (p : ℕ) : ℤ := ((b.extractLsb' (4 * p) 4).toNat : ℤ) - 8

theorem nib_four (x : BitVec 4) : (x ^^^ 8#4).toInt = (x.toNat : ℤ) - 8 := by
  revert x; decide

theorem word_eq (w : BitVec 32) (j : Fin 8) :
    ((w ^^^ 2290649224#32) <<< (28 - 4 * j.val)).sshiftRight 28 = (w.extractLsb' (4 * j.val) 4 ^^^ 8#4).signExtend 32 := by
  apply BitVec.eq_of_getLsbD_eq
  intro i hi
  rw [BitVec.getLsbD_sshiftRight, BitVec.getLsbD_signExtend]
  fin_cases j <;> (interval_cases i <;> simp [BitVec.msb_eq_getLsbD_last, BitVec.getLsbD_extractLsb'])

/-- The kernel's reading of one value of a word. -/
theorem word_toInt (w : BitVec 32) (j : Fin 8) :
    (IntOp.shrsi .vector (IntOp.shli .vector (IntOp.xori w 2290649224#32) (IntOp.subi 28#32 (IntOp.muli 4#32 (BitVec.ofNat 32 j.val)))) 28#32).toInt
      = ((w.extractLsb' (4 * j.val) 4).toNat : ℤ) - 8 := by
  have h : IntOp.shrsi .vector (IntOp.shli .vector (IntOp.xori w 2290649224#32) (IntOp.subi 28#32 (IntOp.muli 4#32 (BitVec.ofNat 32 j.val)))) 28#32
      = ((w ^^^ 2290649224#32) <<< (28 - 4 * j.val)).sshiftRight 28 := by
    fin_cases j <;> rfl
  rw [h, word_eq, BitVec.toInt_signExtend_of_le (by decide), nib_four]

/-- The reference's reading of the low half. -/
theorem lo_toInt (b : BitVec 8) : (IntOp.andi (b.setWidth 32) 15#32).toInt - 8 = nib b 0 := by
  revert b; decide

/-- The reference's reading of the high half. -/
theorem hi_toInt (b : BitVec 8) : (IntOp.shrsi .host (b.setWidth 32) 4#32).toInt - 8 = nib b 1 := by
  revert b; decide

end Cert.Nibble
-- ==== Proof.KStep.lean ====
/- What the kernel's block accumulates, read at one index: each chunk adds its 1024 terms, so the twelve chunks leave the
   whole sum over the contracted axis. -/
module

public import proofs.«01_k».proof.Proof.KShape
public import proofs.«01_k».proof.Proof.Nibble
public import Idealize.ShloMosaic.Lib.Pipeline.Value
public import Idealize.ShloMosaic.Lib.Pipeline.ValueKit.Tiles
public import Idealize.ShloMosaic.Lib.MatmulPlain

@[expose] public section

set_option maxRecDepth 16384

noncomputable section

namespace Cert.Gate

open Idealize.ShloMosaic Idealize.ShloMosaic.ValueIdx

/-- One term of a projection: activation `K` times its dequantised weight. Packed byte `K / 2` holds weight `K` in half `K % 2`;
    128 weights share a scale. The three arguments are one row of activations and one column of codes and of scales. -/
def term (x : Fin 12288 → EReal) (w : Fin 6144 → BitVec 8) (s : Fin 96 → EReal) (K : ℕ) : EReal :=
  x (Fin.ofNat 12288 K) * ((((Cert.Nibble.nib (w (Fin.ofNat 6144 (K / 2))) (K % 2) : ℤ) : ℝ) : EReal) * s (Fin.ofNat 96 (K / 128)))

/-- A projection's value. -/
def proj (x : Fin 12288 → EReal) (w : Fin 6144 → BitVec 8) (s : Fin 96 → EReal) : EReal := ∑ K ∈ Finset.range 12288, term x w s K

end Cert.Gate

namespace Cert.KernelIdeal.Block

open Cert.KernelIdeal Cert.KernelIdeal.Gen Idealize.ShloMosaic Idealize.ShloMosaic.ValueIdx Idealize.SL.Sem Cert.Gate

/-- The integer of a chunk's row `k`: of byte `k / 2`, half `k % 2`. -/
theorem nibbles_apply (v : Vec Ideal S512x256 .i8) (k : Fin 1024) (n : Fin 256) :
    (nibbles (F := Ideal) v (ix2 k n)).toInt = Cert.Nibble.nib (v (ix2 (⟨k.val / 2, by omega⟩ : Fin 512) n)) (k.val % 2) := by
  have hk := k.isLt
  unfold nibbles
  rw [shapeCast_apply _ _ (ix2 k n) (ix3 (⟨k.val / 8, by omega⟩ : Fin 128) (⟨k.val % 8, by omega⟩ : Fin 8) n) (by
    rw [Shape.rowMajor_val_three, Shape.rowMajor_val_two]
    show (k.val / 8 * 8 + k.val % 8) * 256 + n.val = k.val * 256 + n.val
    omega)]
  show (IntOp.shrsi .vector (IntOp.shli .vector (broadcastTo S128x8x256 _ _ _) (IntOp.subi 28#32 (IntOp.muli 4#32 (iota .tc S128x8x256 32 [1] _ _)))) 28#32).toInt = _
  rw [iota_single_apply, broadcastTo_apply _ _ _ (ix3 (⟨k.val / 8, by omega⟩ : Fin 128) (0 : Fin 1) n) (by
      intro a; match a with | ⟨0, _⟩ => rfl | ⟨1, _⟩ => rfl | ⟨2, _⟩ => rfl),
    shapeCast_apply _ _ _ (ix3 (⟨k.val / 8, by omega⟩ : Fin 128) (0 : Fin 1) n) rfl,
    shapeCast_apply _ _ _ (ix2 (⟨k.val / 8, by omega⟩ : Fin 128) n) (by
    rw [Shape.rowMajor_val_three, Shape.rowMajor_val_two]
    show k.val / 8 * 256 + n.val = (k.val / 8 * 1 + 0) * 256 + n.val
    omega)]
  refine (Cert.Nibble.word_toInt (bitcast S128x256 32 v bitcasts_S512x256_w8_S128x256_w32 (ix2 (⟨k.val / 8, by omega⟩ : Fin 128) n)) ⟨k.val % 8, by omega⟩).trans ?_
  unfold Cert.Nibble.nib
  congr 3
  apply BitVec.eq_of_getLsbD_eq
  intro i hi
  rw [BitVec.getLsbD_extractLsb', BitVec.getLsbD_extractLsb']
  have hb := bitcast_8_32_getLsbD_ix2 v bitcasts_S512x256_w8_S128x256_w32 (⟨k.val / 8, by omega⟩ : Fin 128) n (4 * (k.val % 8) + i) (by omega)
    (⟨k.val / 2, by omega⟩ : Fin 512) (by show k.val / 2 = 4 * (k.val / 8) + (4 * (k.val % 8) + i) / 8; omega)
  refine congrArg (decide (i < 4) && ·) (hb.trans ?_)
  congr 1
  omega

/-- A scaled group at one index. -/
theorem slabs_apply (v : Vec Ideal S512x256 .i8) (s0 s1 s2 s3 s4 s5 s6 s7 : Vec Ideal S1x256 .bf16) (g : Fin 8) (k : Fin 128) (n : Fin 256) :
    slabs v s0 s1 s2 s3 s4 s5 s6 s7 g (ix2 k n)
      = (((nibbles (F := Ideal) v (ix2 (⟨128 * g.val + k.val, by omega⟩ : Fin 1024) n)).toInt : ℝ) : EReal)
        * (![s0, s1, s2, s3, s4, s5, s6, s7] g (ix2 (0 : Fin 1) n) : EReal) := by
  have hs (s : Vec Ideal S1x256 .bf16) : broadcastTo S128x256 s broadcasts_S1x256_S128x256 (ix2 k n) = s (ix2 (0 : Fin 1) n) :=
    broadcastTo_apply _ _ _ _ (by intro a; match a with | ⟨0, _⟩ => rfl | ⟨1, _⟩ => rfl)
  have hx (o : ℕ) (h : S1024x256.Slices ![o, 0] S128x256) (ho : o + k.val < 1024) :
      extractStridedSlice S128x256 ![o, 0] (sitofp (F := Ideal) .bf16 (nibbles (F := Ideal) v)) h (ix2 k n)
        = (((nibbles (F := Ideal) v (ix2 (⟨o + k.val, ho⟩ : Fin 1024) n)).toInt : ℝ) : EReal) :=
    extractStridedSlice_apply _ _ h _ (ix2 (⟨o + k.val, ho⟩ : Fin 1024) n) (by
      intro a; match a with | ⟨0, _⟩ => rfl | ⟨1, _⟩ => exact (Nat.zero_add _).symm)
  fin_cases g <;> exact congrArg₂ (fun a b : EReal => a * b) (hx _ _ (by omega)) (hs _)

/-- The dequantised weights of a chunk at one index. -/
theorem wt_apply (v : Vec Ideal S512x256 .i8) (s0 s1 s2 s3 s4 s5 s6 s7 : Vec Ideal S1x256 .bf16) (k : Fin 1024) (n : Fin 256) :
    wt v s0 s1 s2 s3 s4 s5 s6 s7 (ix2 k n)
      = (((Cert.Nibble.nib (v (ix2 (⟨k.val / 2, by omega⟩ : Fin 512) n)) (k.val % 2) : ℤ) : ℝ) : EReal)
        * (![s0, s1, s2, s3, s4, s5, s6, s7] (⟨k.val / 128, by omega⟩ : Fin 8) (ix2 (0 : Fin 1) n) : EReal) := by
  have hk := k.isLt
  refine (concatenate_ofFn_apply (t := S1024x256) (s₁ := S128x256) 0 (slabs v s0 s1 s2 s3 s4 s5 s6 s7)
    concatenates_S128x256_S128x256_S128x256_S128x256_S128x256_S128x256_S128x256_S128x256_S1024x256_d0 rfl 128 rfl (ix2 k n)
    ⟨k.val / 128, by omega⟩ rfl (ix2 (⟨k.val % 128, by omega⟩ : Fin 128) n) rfl (by
      intro b hb; match b with | ⟨0, _⟩ => exact absurd rfl hb | ⟨1, _⟩ => rfl)).trans ?_
  rw [slabs_apply, nibbles_apply]
  have e : 128 * (k.val / 128) + k.val % 128 = k.val := by omega
  simp only [e]

/-- A chunk adds its 1024 terms. -/
theorem step_apply (a : FVec Ideal S128x256 .f32) (xc : FVec Ideal S128x1024 .bf16) (v : Vec Ideal S512x256 .i8)
    (s0 s1 s2 s3 s4 s5 s6 s7 : Vec Ideal S1x256 .bf16) (r : Fin 128) (n : Fin 256) (c : ℕ)
    (x : Fin 12288 → EReal) (w : Fin 6144 → BitVec 8) (s : Fin 96 → EReal)
    (hx : ∀ k : Fin 1024, xc (ix2 r k) = x (Fin.ofNat 12288 (1024 * c + k.val)))
    (hw : ∀ p : Fin 512, v (ix2 p n) = w (Fin.ofNat 6144 (512 * c + p.val)))
    (hs : ∀ g : Fin 8, ![s0, s1, s2, s3, s4, s5, s6, s7] g (ix2 (0 : Fin 1) n) = s (Fin.ofNat 96 (8 * c + g.val))) :
    step a xc v s0 s1 s2 s3 s4 s5 s6 s7 (ix2 r n) = a (ix2 r n) + ∑ k ∈ Finset.range 1024, term x w s (1024 * c + k) := by
  refine congrArg (fun t : EReal => a (ix2 r n) + t) ?_
  refine (Ideal.matmul_plain_apply none _ _ _ r n).trans ?_
  rw [show constant (F := Ideal) S128x256 .f32 0x00000000#32 (ix2 r n) = (0 : EReal) from Ideal.ofBits_zero_f32, zero_add, Finset.sum_range]
  refine Finset.sum_congr rfl fun k _ => ?_
  have hk := k.isLt
  rw [shapeCast_apply _ _ (ix2 r k) (ix2 r k) rfl, wt_apply, hx, hw, hs]
  unfold term
  have e1 : (1024 * c + k.val) / 2 = 512 * c + k.val / 2 := by omega
  have e2 : (1024 * c + k.val) % 2 = k.val % 2 := by omega
  have e3 : (1024 * c + k.val) / 128 = 8 * c + k.val / 128 := by omega
  rw [e1, e2, e3]

section Chunks

variable (x : Vec Ideal S128x12288 .bf16) (w : Vec Ideal S6144x256 .i8) (s : Vec Ideal S96x256 .bf16) (r : Fin 128) (n : Fin 256)

theorem ldX (o : ℕ) (inb) (k : Fin 1024) (ho : o + k.val < 12288) :
    View.ld x (Rect.unit (s := S128x12288) ![0, o] S128x1024.size inb) (ix2 r k) = x (ix2 r (Fin.ofNat 12288 (o + k.val))) :=
  View.ld_unit_apply_of _ _ _ _ _ _ (by
    intro a
    match a with
    | ⟨0, _⟩ => exact (Nat.zero_add _).symm
    | ⟨1, _⟩ => exact Nat.mod_eq_of_lt ho)

theorem ldW (o : ℕ) (inb) (p : Fin 512) (ho : o + p.val < 6144) :
    View.ld w (Rect.unit (s := S6144x256) ![o, 0] S512x256.size inb) (ix2 p n) = w (ix2 (Fin.ofNat 6144 (o + p.val)) n) :=
  View.ld_unit_apply_of _ _ _ _ _ _ (by
    intro a
    match a with
    | ⟨0, _⟩ => exact Nat.mod_eq_of_lt ho
    | ⟨1, _⟩ => exact (Nat.zero_add _).symm)

theorem ldS (o : ℕ) (inb) (ho : o < 96) :
    View.ld s (Rect.unit (s := S96x256) ![o, 0] S1x256.size inb) (ix2 (0 : Fin 1) n) = s (ix2 (Fin.ofNat 96 o) n) :=
  View.ld_unit_apply_of _ _ _ _ _ _ (by
    intro a
    match a with
    | ⟨0, _⟩ => exact Nat.mod_eq_of_lt ho
    | ⟨1, _⟩ => exact (Nat.zero_add _).symm)

/-- The sum of the first `N` terms of row `r`, column `n` of the block. -/
def part (N : ℕ) : EReal :=
  ∑ K ∈ Finset.range N, term (fun K => x (ix2 r K)) (fun p => w (ix2 p n)) (fun g => s (ix2 g n)) K

theorem part_add (N : ℕ) : part x w s r n (N + 1024) = part x w s r n N
    + ∑ k ∈ Finset.range 1024, term (fun K => x (ix2 r K)) (fun p => w (ix2 p n)) (fun g => s (ix2 g n)) (N + k) :=
  Finset.sum_range_add _ N 1024

theorem acc0_apply : acc0 (F := Ideal) (ix2 r n) = part x w s r n 0 := by
  show Ideal.ofBits .f32 0x00000000#32 = _
  rw [Ideal.ofBits_zero_f32]
  rfl

theorem acc1_apply : acc1 x w s (ix2 r n) = part x w s r n 1024 := by
  rw [show 1024 = 1024 * 0 + 1024 from rfl, part_add, show 1024 * 0 = 0 from rfl, ← acc0_apply]
  exact step_apply _ _ _ _ _ _ _ _ _ _ _ r n 0 _ _ _ (fun k => ldX x r _ _ k (by omega)) (fun p => ldW w n _ _ p (by omega))
    (fun g => by fin_cases g <;> exact ldS s n _ _ (by omega))

theorem acc2_apply : acc2 x w s (ix2 r n) = part x w s r n 2048 := by
  rw [show 2048 = 1024 * 1 + 1024 from rfl, part_add, show 1024 * 1 = 1024 from rfl, ← acc1_apply]
  exact step_apply _ _ _ _ _ _ _ _ _ _ _ r n 1 _ _ _ (fun k => ldX x r _ _ k (by omega)) (fun p => ldW w n _ _ p (by omega))
    (fun g => by fin_cases g <;> exact ldS s n _ _ (by omega))

theorem acc3_apply : acc3 x w s (ix2 r n) = part x w s r n 3072 := by
  rw [show 3072 = 1024 * 2 + 1024 from rfl, part_add, show 1024 * 2 = 2048 from rfl, ← acc2_apply]
  exact step_apply _ _ _ _ _ _ _ _ _ _ _ r n 2 _ _ _ (fun k => ldX x r _ _ k (by omega)) (fun p => ldW w n _ _ p (by omega))
    (fun g => by fin_cases g <;> exact ldS s n _ _ (by omega))

theorem acc4_apply : acc4 x w s (ix2 r n) = part x w s r n 4096 := by
  rw [show 4096 = 1024 * 3 + 1024 from rfl, part_add, show 1024 * 3 = 3072 from rfl, ← acc3_apply]
  exact step_apply _ _ _ _ _ _ _ _ _ _ _ r n 3 _ _ _ (fun k => ldX x r _ _ k (by omega)) (fun p => ldW w n _ _ p (by omega))
    (fun g => by fin_cases g <;> exact ldS s n _ _ (by omega))

theorem acc5_apply : acc5 x w s (ix2 r n) = part x w s r n 5120 := by
  rw [show 5120 = 1024 * 4 + 1024 from rfl, part_add, show 1024 * 4 = 4096 from rfl, ← acc4_apply]
  exact step_apply _ _ _ _ _ _ _ _ _ _ _ r n 4 _ _ _ (fun k => ldX x r _ _ k (by omega)) (fun p => ldW w n _ _ p (by omega))
    (fun g => by fin_cases g <;> exact ldS s n _ _ (by omega))

theorem acc6_apply : acc6 x w s (ix2 r n) = part x w s r n 6144 := by
  rw [show 6144 = 1024 * 5 + 1024 from rfl, part_add, show 1024 * 5 = 5120 from rfl, ← acc5_apply]
  exact step_apply _ _ _ _ _ _ _ _ _ _ _ r n 5 _ _ _ (fun k => ldX x r _ _ k (by omega)) (fun p => ldW w n _ _ p (by omega))
    (fun g => by fin_cases g <;> exact ldS s n _ _ (by omega))

theorem acc7_apply : acc7 x w s (ix2 r n) = part x w s r n 7168 := by
  rw [show 7168 = 1024 * 6 + 1024 from rfl, part_add, show 1024 * 6 = 6144 from rfl, ← acc6_apply]
  exact step_apply _ _ _ _ _ _ _ _ _ _ _ r n 6 _ _ _ (fun k => ldX x r _ _ k (by omega)) (fun p => ldW w n _ _ p (by omega))
    (fun g => by fin_cases g <;> exact ldS s n _ _ (by omega))

theorem acc8_apply : acc8 x w s (ix2 r n) = part x w s r n 8192 := by
  rw [show 8192 = 1024 * 7 + 1024 from rfl, part_add, show 1024 * 7 = 7168 from rfl, ← acc7_apply]
  exact step_apply _ _ _ _ _ _ _ _ _ _ _ r n 7 _ _ _ (fun k => ldX x r _ _ k (by omega)) (fun p => ldW w n _ _ p (by omega))
    (fun g => by fin_cases g <;> exact ldS s n _ _ (by omega))

theorem acc9_apply : acc9 x w s (ix2 r n) = part x w s r n 9216 := by
  rw [show 9216 = 1024 * 8 + 1024 from rfl, part_add, show 1024 * 8 = 8192 from rfl, ← acc8_apply]
  exact step_apply _ _ _ _ _ _ _ _ _ _ _ r n 8 _ _ _ (fun k => ldX x r _ _ k (by omega)) (fun p => ldW w n _ _ p (by omega))
    (fun g => by fin_cases g <;> exact ldS s n _ _ (by omega))

theorem acc10_apply : acc10 x w s (ix2 r n) = part x w s r n 10240 := by
  rw [show 10240 = 1024 * 9 + 1024 from rfl, part_add, show 1024 * 9 = 9216 from rfl, ← acc9_apply]
  exact step_apply _ _ _ _ _ _ _ _ _ _ _ r n 9 _ _ _ (fun k => ldX x r _ _ k (by omega)) (fun p => ldW w n _ _ p (by omega))
    (fun g => by fin_cases g <;> exact ldS s n _ _ (by omega))

theorem acc11_apply : acc11 x w s (ix2 r n) = part x w s r n 11264 := by
  rw [show 11264 = 1024 * 10 + 1024 from rfl, part_add, show 1024 * 10 = 10240 from rfl, ← acc10_apply]
  exact step_apply _ _ _ _ _ _ _ _ _ _ _ r n 10 _ _ _ (fun k => ldX x r _ _ k (by omega)) (fun p => ldW w n _ _ p (by omega))
    (fun g => by fin_cases g <;> exact ldS s n _ _ (by omega))

theorem acc12_apply : acc12 x w s (ix2 r n) = part x w s r n 12288 := by
  rw [show 12288 = 1024 * 11 + 1024 from rfl, part_add, show 1024 * 11 = 11264 from rfl, ← acc11_apply]
  exact step_apply _ _ _ _ _ _ _ _ _ _ _ r n 11 _ _ _ (fun k => ldX x r _ _ k (by omega)) (fun p => ldW w n _ _ p (by omega))
    (fun g => by fin_cases g <;> exact ldS s n _ _ (by omega))

end Chunks

end Cert.KernelIdeal.Block
-- ==== Proof.Ladder.lean ====
/- The power-of-two scale of a block, from the block's largest magnitude `a` over 448: the kernel finds the exponent field of
   `a` by eight comparisons and writes the scale and its inverse as bit patterns; the reference takes the least exponent `e`
   with `a < 2 ^ e` and raises two to `e` and to `-e`. Both are stated here on one extended real, and agree for a
   nonnegative real below `2 ^ 126`. -/
module

public import Idealize.ShloMosaic.Lib.ValueIdx
public import Idealize.ShloMosaic.PureOps.Ideal.Laws

@[expose] public section

noncomputable section

namespace Cert.Quant

open Idealize.ShloMosaic

/-- The value of the pattern whose exponent field is `n`. -/
def fieldVal (n : BitVec 32) : EReal := Ideal.ofBits .f32 (IntOp.shli .vector n 23#32)

/-- One comparison of the search: the field `f` raised by `s` unless `a` is below the raised field's value. -/
def rung (a : EReal) (f s : BitVec 32) : BitVec 32 :=
  Scalar.select (Ideal.cmp .olt a (fieldVal (IntOp.addi f s))) f (IntOp.addi f s)

/-- The eight comparisons. -/
def ladder (a : EReal) : BitVec 32 :=
  rung a (rung a (rung a (rung a (rung a (rung a (rung a (rung a 0#32 128#32) 64#32) 32#32) 16#32) 8#32) 4#32) 2#32) 1#32

/-- The kernel's exponent of the scale. -/
def expo (a : EReal) : BitVec 32 :=
  Scalar.select (Ideal.cmp .oeq a (Ideal.ofBits .f32 0x00000000#32)) 0#32 (IntOp.subi (ladder a) 126#32)

/-- The kernel's scale. -/
def scaleOf (a : EReal) : EReal := fieldVal (IntOp.addi (expo a) 127#32)

/-- The kernel's inverse of the scale. -/
def invOf (a : EReal) : EReal := fieldVal (IntOp.subi 127#32 (expo a))

theorem shli_toNat (n : ℕ) (hn : n ≤ 255) : (IntOp.shli .vector (BitVec.ofNat 32 n) 23#32).toNat = n * 8388608 := by
  have : IntOp.shli .vector (BitVec.ofNat 32 n) 23#32 = BitVec.ofNat 32 n <<< 23 := rfl
  rw [this, BitVec.toNat_shiftLeft, BitVec.toNat_ofNat, Nat.shiftLeft_eq]
  omega

theorem fieldVal_ofNat (n : ℕ) (h1 : 1 ≤ n) (h2 : n ≤ 254) :
    fieldVal (BitVec.ofNat 32 n) = (((2 : ℝ) ^ ((n : ℤ) - 127) : ℝ) : EReal) := by
  have ht := shli_toNat n (by omega)
  unfold fieldVal
  generalize IntOp.shli .vector (BitVec.ofNat 32 n) 23#32 = b at ht
  have hex : (b.extractLsb' 23 8).toNat = n := by
    rw [BitVec.extractLsb'_toNat, ht, Nat.shiftRight_eq_div_pow]; omega
  have hfr : (b.extractLsb' 0 23).toNat = 0 := by
    rw [BitVec.extractLsb'_toNat, ht, Nat.shiftRight_eq_div_pow]; omega
  have hneg : (b.extractLsb' 31 1) = 0#1 := by
    apply BitVec.eq_of_toNat_eq
    rw [BitVec.extractLsb'_toNat, ht, Nat.shiftRight_eq_div_pow]; simp; omega
  show Ideal.ieee 8 23 b = _
  unfold Ideal.ieee
  simp only [show 8 + 23 = 31 from rfl]
  rw [hex, hfr, hneg]
  rw [if_neg (by norm_num; omega), if_neg (by omega)]
  congr 1
  have : (0#1 == 1#1) = false := rfl
  simp only [this]
  norm_num
  rw [show (8388608 : ℝ) = (2 : ℝ) ^ (23 : ℤ) by norm_num, ← zpow_add₀ (by norm_num)]
  congr 1
  push_cast
  ring

theorem fieldVal_top : fieldVal (BitVec.ofNat 32 255) = ⊤ := by
  have ht := shli_toNat 255 (by omega)
  unfold fieldVal
  generalize IntOp.shli .vector (BitVec.ofNat 32 255) 23#32 = b at ht
  have hex : (b.extractLsb' 23 8).toNat = 255 := by
    rw [BitVec.extractLsb'_toNat, ht]; rfl
  have hfr : (b.extractLsb' 0 23).toNat = 0 := by
    rw [BitVec.extractLsb'_toNat, ht]; rfl
  have hneg : (b.extractLsb' 31 1) = 0#1 := by
    apply BitVec.eq_of_toNat_eq
    rw [BitVec.extractLsb'_toNat, ht]; rfl
  show Ideal.ieee 8 23 b = _
  unfold Ideal.ieee
  simp only [show 8 + 23 = 31 from rfl]
  rw [hex, hfr, hneg]
  simp

/-- What the search keeps: the field found so far, and the width still open above it. -/
def Inv (a : EReal) (f w : ℕ) : Prop :=
  f + w ≤ 256 ∧ (f = 0 ∨ fieldVal (BitVec.ofNat 32 f) ≤ a) ∧ (f + w = 256 ∨ a < fieldVal (BitVec.ofNat 32 (f + w)))

theorem rung_step (a : EReal) (f s : ℕ) (b t : BitVec 32) (hb : b = BitVec.ofNat 32 f) (ht : t = BitVec.ofNat 32 s) (hs : 1 ≤ s)
    (h : Inv a f (2 * s)) : ∃ f', rung a b t = BitVec.ofNat 32 f' ∧ Inv a f' s := by
  obtain ⟨h1, h2, h3⟩ := h
  subst hb ht
  have hadd : IntOp.addi (BitVec.ofNat 32 f) (BitVec.ofNat 32 s) = BitVec.ofNat 32 (f + s) := by
    show BitVec.ofNat 32 f + BitVec.ofNat 32 s = _
    rw [BitVec.ofNat_add]
  unfold rung
  rw [hadd]
  by_cases hlt : a < fieldVal (BitVec.ofNat 32 (f + s))
  · refine ⟨f, ?_, by omega, h2, Or.inr hlt⟩
    simp [Ideal.cmp, hlt, Scalar.select]
  · refine ⟨f + s, ?_, by omega, Or.inr (not_lt.mp hlt), ?_⟩
    · simp [Ideal.cmp, hlt, Scalar.select]
    · rw [show f + s + s = f + 2 * s by omega]; exact h3

/-- `E` is the exponent field of `a`, a nonnegative real below `2 ^ 126`. -/
def IsField (a : ℝ) (E : ℕ) : Prop :=
  E ≤ 252 ∧ a < (2 : ℝ) ^ ((E : ℤ) - 126) ∧ (E = 0 ∨ (2 : ℝ) ^ ((E : ℤ) - 127) ≤ a)

theorem ladder_spec (a : ℝ) (h : a < (2 : ℝ) ^ (126 : ℤ)) :
    ∃ E, IsField a E ∧ ladder (a : EReal) = BitVec.ofNat 32 E := by
  have i0 : Inv (a : EReal) 0 (2 * 128) := ⟨by norm_num, Or.inl rfl, Or.inl rfl⟩
  obtain ⟨f1, e1, i1⟩ := rung_step _ _ _ 0#32 128#32 rfl rfl (by norm_num) i0
  obtain ⟨f2, e2, i2⟩ := rung_step _ _ 64 _ 64#32 e1 rfl (by norm_num) i1
  obtain ⟨f3, e3, i3⟩ := rung_step _ _ 32 _ 32#32 e2 rfl (by norm_num) i2
  obtain ⟨f4, e4, i4⟩ := rung_step _ _ 16 _ 16#32 e3 rfl (by norm_num) i3
  obtain ⟨f5, e5, i5⟩ := rung_step _ _ 8 _ 8#32 e4 rfl (by norm_num) i4
  obtain ⟨f6, e6, i6⟩ := rung_step _ _ 4 _ 4#32 e5 rfl (by norm_num) i5
  obtain ⟨f7, e7, i7⟩ := rung_step _ _ 2 _ 2#32 e6 rfl (by norm_num) i6
  obtain ⟨E, e8, h1, h2, h3⟩ := rung_step _ _ 1 _ 1#32 e7 rfl (by norm_num) i7
  have big : ∀ n : ℕ, 253 ≤ n → n ≤ 254 → ¬ fieldVal (BitVec.ofNat 32 n) ≤ (a : EReal) := by
    intro n hn hn' hle
    rw [fieldVal_ofNat n (by omega) hn', EReal.coe_le_coe_iff] at hle
    have : (2 : ℝ) ^ (126 : ℤ) ≤ (2 : ℝ) ^ ((n : ℤ) - 127) := zpow_le_zpow_right₀ (by norm_num) (by omega)
    linarith
  have hE : E ≤ 252 := by
    by_contra hc
    rcases h2 with h2 | h2
    · omega
    · by_cases h255 : E = 255
      · rw [h255, fieldVal_top] at h2
        exact absurd h2 (by simp)
      · exact big E (by omega) (by omega) h2
  refine ⟨E, ⟨hE, ?_, ?_⟩, e8⟩
  · rcases h3 with h3 | h3
    · omega
    · rw [fieldVal_ofNat (E + 1) (by omega) (by omega), EReal.coe_lt_coe_iff] at h3
      rwa [show ((E + 1 : ℕ) : ℤ) - 127 = (E : ℤ) - 126 by push_cast; ring] at h3
  · by_cases h0 : E = 0
    · exact Or.inl h0
    · refine Or.inr ?_
      rcases h2 with h2 | h2
      · exact absurd h2 h0
      · rwa [fieldVal_ofNat E (by omega) (by omega), EReal.coe_le_coe_iff] at h2

/-- The exponent both sides arrive at: zero for a zero, else the field less 126. -/
theorem scaleOf_of_ne (a : ℝ) (E : ℕ) (hE : IsField a E) (hl : ladder (a : EReal) = BitVec.ofNat 32 E) (h0 : a ≠ 0) :
    scaleOf (a : EReal) = (((2 : ℝ) ^ ((E : ℤ) - 126) : ℝ) : EReal) ∧ invOf (a : EReal) = (((2 : ℝ) ^ (126 - (E : ℤ)) : ℝ) : EReal) := by
  have hx : expo (a : EReal) = BitVec.ofNat 32 E - 126#32 := by
    unfold expo
    rw [hl, Ideal.ofBits_zero_f32]
    have : ((a : EReal) = 0) = False := by simpa using h0
    simp [Ideal.cmp, this, Scalar.select, IntOp.subi, h0]
  have hEl := hE.1
  unfold scaleOf invOf
  rw [hx]
  constructor
  · have : IntOp.addi (BitVec.ofNat 32 E - 126#32) 127#32 = BitVec.ofNat 32 (E + 1) := by
      apply BitVec.eq_of_toNat_eq
      simp [IntOp.addi, BitVec.toNat_add, BitVec.toNat_sub]; omega
    rw [this, fieldVal_ofNat _ (by omega) (by omega)]
    congr 2; push_cast; ring
  · have : IntOp.subi 127#32 (BitVec.ofNat 32 E - 126#32) = BitVec.ofNat 32 (253 - E) := by
      apply BitVec.eq_of_toNat_eq
      simp [IntOp.subi, BitVec.toNat_sub]; omega
    rw [this, fieldVal_ofNat _ (by omega) (by omega)]
    congr 2; omega

theorem scaleOf_zero : scaleOf 0 = 1 ∧ invOf 0 = 1 := by
  have hx : expo 0 = 0#32 := by
    unfold expo
    rw [Ideal.ofBits_zero_f32]
    simp [Ideal.cmp, Scalar.select]
  unfold scaleOf invOf
  rw [hx]
  have h1 : fieldVal (BitVec.ofNat 32 127) = 1 := by
    rw [fieldVal_ofNat 127 (by omega) (by omega)]; norm_num
  exact ⟨h1, h1⟩

/-- The reference's exponent: the least of the exponents `-126 … 127` whose power of two is above `a`. -/
theorem leastExponent (a : ℝ) (E : ℕ) (hE : IsField a E) :
    Finset.univ.fold min ⊤ (fun i : Fin 254 => Scalar.select (Ideal.cmp .olt (a : EReal) (Ideal.pow ((2 : ℝ) : EReal) (((i.val : ℝ) - 126 : ℝ) : EReal)))
      (((i.val : ℝ) - 126 : ℝ) : EReal) ⊤) = (((E : ℝ) - 126 : ℝ) : EReal) := by
  obtain ⟨h1, h2, h3⟩ := hE
  have hpow : ∀ n : ℕ, Ideal.pow ((2 : ℝ) : EReal) (((n : ℝ) - 126 : ℝ) : EReal) = (((2 : ℝ) ^ ((n : ℤ) - 126) : ℝ) : EReal) := by
    intro n
    rw [Ideal.pow_coe_coe]
    congr 1
    show (2 : ℝ) ^ ((n : ℝ) - 126) = _
    rw [← Real.rpow_intCast]
    push_cast; rfl
  simp only [hpow]
  apply le_antisymm
  · rw [Finset.fold_min_le]
    refine Or.inr ⟨⟨E, by omega⟩, Finset.mem_univ _, ?_⟩
    simp [Ideal.cmp, Scalar.select, h2]
  · rw [Finset.le_fold_min]
    refine ⟨le_top, fun i _ => ?_⟩
    by_cases hlt : a < (2 : ℝ) ^ ((i.val : ℤ) - 126)
    · have hEi : E ≤ i.val := by
        rcases h3 with h3 | h3
        · omega
        · have := (zpow_lt_zpow_iff_right₀ (by norm_num : (1 : ℝ) < 2)).mp (lt_of_le_of_lt h3 hlt)
          omega
      have : (E : ℝ) ≤ (i.val : ℝ) := by exact_mod_cast hEi
      simp only [Ideal.cmp, Scalar.select, EReal.coe_lt_coe_iff, hlt, decide_true, BitVec.ofBool_true]
      simp only [if_true, EReal.coe_le_coe_iff]
      simpa using this
    · simp [Ideal.cmp, Scalar.select, hlt]

end Cert.Quant

end
-- ==== Proof.KQuant.lean ====
/- The kernel's quantiser read at one index: each half of a block has one scale per row, from the row's largest magnitude. -/
module

public import proofs.«01_k».proof.Proof.KShape
public import proofs.«01_k».proof.Proof.Ladder
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.ValueIdx Idealize.SL.Sem

/-- A row's largest magnitude over 128 lanes. -/
def rowMax (f : Fin 128 → EReal) : EReal := (Finset.univ : Finset (Fin 128)).fold max (Ideal.ofBits .f32 0xFF800000#32) (fun l => max (f l) (-f l))

/-- The clip to the finite range of the code's format. -/
def clip (t : EReal) : EReal := min (Ideal.ofBits .f32 0x43E00000#32) (max (Ideal.ofBits .f32 0xC3E00000#32) t)

/-- The multiplier of the largest magnitude. -/
def recip : EReal := Ideal.ofBits .f32 0x3B124925#32

/-- The rows' largest magnitudes of a half, as the body takes them. -/
def maxVec {F : FTy → Type} [FloatOps F] (b : FVec F S128x128 .f32) : FVec F S128 .f32 :=
  multiReduction .maximumf [1] S128 (absf b) 0xFF800000#32 reduces_S128x128_S128 (.inl rfl) rfl

theorem maxVec_apply (b : FVec Ideal S128x128 .f32) (r : Fin 128) : maxVec b (ix1 r) = rowMax fun l => b (ix2 r l) := by
  refine (Ideal.multiReduction_maximumf_single _ _ _ _ _ _).trans ?_
  unfold rowMax
  refine congrArg (Finset.fold max _ · _) (funext fun l => ?_)
  refine congrArg (fun t : EReal => max t (-t)) (congrArg b ?_)
  funext a
  match a with
  | ⟨0, _⟩ => rfl
  | ⟨1, _⟩ => rfl

/-- The scaled largest magnitudes of a half. -/
theorem aLo_apply (b : FVec Ideal S128x128 .f32) (r : Fin 128) : k0_pay152 (maxVec b) (ix2 r 0) = rowMax (fun l => b (ix2 r l)) * recip := by
  show shapeCast S128x1 (maxVec b) shapeCasts_S128_S128x1 (ix2 r 0) * _ = _
  rw [shapeCast_apply _ _ (ix2 r (0 : Fin 1)) (ix1 r) (by rw [Shape.rowMajor_val_one, Shape.rowMajor_val_two]; show r.val = r.val * 1 + 0; omega), maxVec_apply]
  rfl

theorem aHi_apply (h : FVec Ideal S128x256 .f32) (r : Fin 128) : k0_pay161 h (ix2 r 0) = rowMax (fun l => k0_pay160 h (ix2 r l)) * recip :=
  aLo_apply (k0_pay160 h) r

section Ladder

variable {F : FTy → Type} [FloatOps F]

/-- One comparison of the exponent search over a column of rows. -/
def rungV (a : FVec F S128x1 .f32) (f : IVec S128x1 32) (s : BitVec 32) : IVec S128x1 32 :=
  select (cmpf .olt a (bitcastToFloat .f32 (shli (addi f (broadcast S128x1 s)) (broadcast S128x1 23#32)))) f (addi f (broadcast S128x1 s))

/-- The exponents of a column of rows. -/
def expoV (a : FVec F S128x1 .f32) : IVec S128x1 32 :=
  select (cmpf .oeq a (broadcast S128x1 (Scalar.ofBits .f32 0x00000000#32))) (broadcast S128x1 0#32)
    (subi (rungV a (rungV a (rungV a (rungV a (rungV a (rungV a (rungV a (rungV a (broadcast S128x1 0#32) 128#32) 64#32) 32#32) 16#32) 8#32) 4#32) 2#32) 1#32)
      (broadcast S128x1 126#32))

theorem expoLo (q : FVec F S128 .f32) :
    k0_pay157 (k0_pay152 q) (k0_pay153 q) (k0_pay154 q) (k0_pay155 q) (k0_pay156 q) = expoV (k0_pay152 q) := rfl

theorem expoHi (h : FVec F S128x256 .f32) :
    k0_pay164 (k0_pay161 h) (k0_pay162 h) (k0_pay163 h) 4#32 = expoV (k0_pay161 h) := rfl

end Ladder

theorem rungV_apply (a : FVec Ideal S128x1 .f32) (f : IVec S128x1 32) (s : BitVec 32) (i : S128x1.Idx) :
    rungV a f s i = Cert.Quant.rung (a i) (f i) s := rfl

theorem expoV_apply (a : FVec Ideal S128x1 .f32) (i : S128x1.Idx) : expoV a i = Cert.Quant.expo (a i) := by
  show Scalar.select (Ideal.cmp .oeq (a i) (Ideal.ofBits .f32 0x00000000#32)) 0#32 (IntOp.subi (rungV a _ 1#32 i) 126#32) = _
  simp only [rungV_apply]
  rfl

/-- The scale and its inverse from the exponents. -/
theorem scaleV_apply (a : FVec Ideal S128x1 .f32) (i : S128x1.Idx) :
    bitcastToFloat (F := Ideal) .f32 (shli (addi (expoV a) (broadcast S128x1 127#32)) (broadcast S128x1 23#32)) i = Cert.Quant.scaleOf (a i) := by
  show Ideal.ofBits .f32 (IntOp.shli .vector (IntOp.addi (expoV a i) 127#32) 23#32) = _
  rw [expoV_apply]
  rfl

theorem invV_apply (a : FVec Ideal S128x1 .f32) (i : S128x1.Idx) :
    bitcastToFloat (F := Ideal) .f32 (shli (subi (broadcast S128x1 127#32) (expoV a)) (broadcast S128x1 23#32)) i = Cert.Quant.invOf (a i) := by
  show Ideal.ofBits .f32 (IntOp.shli .vector (IntOp.subi 127#32 (expoV a i)) 23#32) = _
  rw [expoV_apply]
  rfl

/-- A column spread over lanes. -/
theorem col_apply (v : FVec Ideal S128x1 .f32) (r l : Fin 128) : broadcastTo S128x128 v broadcasts_S128x1_S128x128 (ix2 r l) = v (ix2 r 0) :=
  broadcastTo_apply _ _ (ix2 r l) (ix2 r 0) (by intro a; match a with | ⟨0, _⟩ => rfl | ⟨1, _⟩ => rfl)

/-- A column stored as one lane of a block of scales. -/
theorem lane_apply (v : FVec Ideal S128x1 .f32) (i : S1x128x1.Idx) (r : Fin 128) (hi : (i 1).val = r.val) :
    shapeCast S1x128x1 v shapeCasts_S128x1_S1x128x1 i = v (ix2 r 0) :=
  shapeCast_apply _ _ i (ix2 r 0) (by
    rw [Shape.rowMajor_val_three, Shape.rowMajor_val_two]
    show r.val * 1 + 0 = ((i 0).val * 128 + (i 1).val) * 1 + (i 2).val
    have h0 : (i 0).val < 1 := (i 0).isLt
    have h2 : (i 2).val < 1 := (i 2).isLt
    omega)

/-- The first half's codes and scales. -/
theorem codesLo (b : FVec Ideal S128x128 .f32) (r l : Fin 128) :
    k0_pay158 b (k0_pay152 (maxVec b)) (k0_pay153 (maxVec b)) (k0_pay154 (maxVec b)) (k0_pay155 (maxVec b)) (k0_pay156 (maxVec b)) (ix2 r l)
      = clip (b (ix2 r l) * Cert.Quant.invOf (rowMax (fun l => b (ix2 r l)) * recip)) := by
  unfold k0_pay158
  rw [expoLo, ← aLo_apply, ← invV_apply]
  exact congrArg (fun t : EReal => clip (b (ix2 r l) * t)) (col_apply _ r l)

theorem scaleLo (b : FVec Ideal S128x128 .f32) (i : S1x128x1.Idx) (r : Fin 128) (hi : (i 1).val = r.val) :
    k0_pay159 (k0_pay152 (maxVec b)) (k0_pay153 (maxVec b)) (k0_pay154 (maxVec b)) (k0_pay155 (maxVec b)) (k0_pay156 (maxVec b)) i
      = Cert.Quant.scaleOf (rowMax (fun l => b (ix2 r l)) * recip) := by
  unfold k0_pay159
  rw [expoLo, ← aLo_apply, ← scaleV_apply]
  exact lane_apply _ i r hi

/-- The second half's codes and scales. -/
theorem codesHi (h : FVec Ideal S128x256 .f32) (r l : Fin 128) :
    k0_pay166 (k0_pay160 h) (k0_pay161 h) (k0_pay162 h) (k0_pay163 h) 4#32 (ix2 r l)
      = clip (k0_pay160 h (ix2 r l) * Cert.Quant.invOf (rowMax (fun l => k0_pay160 h (ix2 r l)) * recip)) := by
  unfold k0_pay166
  rw [expoHi, ← aHi_apply, ← invV_apply]
  exact congrArg (fun t : EReal => clip (k0_pay160 h (ix2 r l) * t)) (col_apply _ r l)

theorem scaleHi (h : FVec Ideal S128x256 .f32) (i : S1x128x1.Idx) (r : Fin 128) (hi : (i 1).val = r.val) :
    k0_pay1 (k0_pay165 (k0_pay161 h) (k0_pay162 h) (k0_pay163 h) 4#32) i
      = Cert.Quant.scaleOf (rowMax (fun l => k0_pay160 h (ix2 r l)) * recip) := by
  unfold k0_pay1 k0_pay165
  rw [expoHi, ← aHi_apply, ← scaleV_apply]
  exact lane_apply _ i r hi

end Cert.KernelIdeal.Block
-- ==== Proof.KOut.lean ====
/- What the kernel's body leaves in its two output blocks, read at one index. -/
module

public import proofs.«01_k».proof.Proof.KStep
public import proofs.«01_k».proof.Proof.KQuant

@[expose] public section

set_option maxRecDepth 16384

noncomputable section

namespace Cert.Gate

open Idealize.ShloMosaic

/-- The gated product `silu(gate) * up` at one row and column, from the row of activations and the columns of codes and scales. -/
def hidden (x : Fin 12288 → EReal) (w1 : Fin 6144 → BitVec 8) (s1 : Fin 96 → EReal) (w3 : Fin 6144 → BitVec 8) (s3 : Fin 96 → EReal) : EReal :=
  proj x w1 s1 * FloatOps.logistic (F := Ideal) (φ := .f32) (proj x w1 s1) * proj x w3 s3

end Cert.Gate

namespace Cert.KernelIdeal.Block

open Cert.KernelIdeal Cert.KernelIdeal.Gen Idealize.ShloMosaic Idealize.ShloMosaic.ValueIdx Idealize.SL.Sem Cert.Gate

variable (x0 : Vec Ideal S128x12288 .bf16) (x1 : Vec Ideal S6144x256 .i8) (x2 : Vec Ideal S96x256 .bf16) (x3 : Vec Ideal S6144x256 .i8) (x4 : Vec Ideal S96x256 .bf16)

/-- The gated product of a block at row `r`, column `n`. -/
def blockHid (r : Fin 128) (n : Fin 256) : EReal :=
  hidden (fun K => x0 (ix2 r K)) (fun p => x1 (ix2 p n)) (fun g => x2 (ix2 g n)) (fun p => x3 (ix2 p n)) (fun g => x4 (ix2 g n))

theorem hid_apply (r : Fin 128) (n : Fin 256) : hid x0 x1 x2 x3 x4 (ix2 r n) = blockHid x0 x1 x2 x3 x4 r n := by
  show acc12 x0 x1 x2 (ix2 r n) * FloatOps.logistic (F := Ideal) (φ := .f32) (acc12 x0 x1 x2 (ix2 r n)) * acc12 x0 x3 x4 (ix2 r n) = _
  rw [acc12_apply, acc12_apply]
  rfl

/-- An index of a rectangle, placed in the buffer. -/
theorem emb_val {s : Shape} (off size : Fin s.rank → Nat) (inb) (j : (Rect.unit off size inb).shape.Idx) (a : Fin s.rank) :
    ((Rect.unit off size inb).emb j a : Nat) = off a + j a := by
  rw [Rect.emb_apply]
  show off a + 1 * (j a : Nat) = _
  omega

/-- Lane `l` of half `j` of a block. -/
def lane (j : Fin 2) (l : Fin 128) : Fin 256 := ⟨128 * j.val + l.val, by omega⟩

/-- A row's scaled largest magnitude in half `j` of a block. -/
def blockMax (r : Fin 128) (j : Fin 2) : EReal := rowMax (fun l => blockHid x0 x1 x2 x3 x4 r (lane j l)) * recip

theorem lo_apply (r l : Fin 128) :
    extractStridedSlice S128x128 ![0, 0] (hid x0 x1 x2 x3 x4) slices_S128x256_o0_0_S128x128 (ix2 r l) = blockHid x0 x1 x2 x3 x4 r (lane 0 l) := by
  rw [← hid_apply]
  exact extractStridedSlice_apply _ _ _ _ (ix2 r (lane 0 l)) (by
    intro a
    match a with
    | ⟨0, _⟩ => exact (Nat.zero_add _).symm
    | ⟨1, _⟩ => rfl)

/-- The first half of the gated product, as the body slices it. -/
theorem lo_eq : k0_pay150 (k0_pay183 x0 x1 x2 x3 x4) (k0_pay184 x0 x1 x2 x3 x4) (k0_pay185 x0 x1 x2 x3 x4) (k0_pay186 x0 x1 x2 x3 x4) (View.ld x4 r0_112) (View.ld x4 r0_113) (View.ld x4 r0_114) (View.ld x4 r0_115) (View.ld x4 r0_116) (View.ld x4 r0_117) (View.ld x4 r0_118) (View.ld x4 r0_119)
    = extractStridedSlice S128x128 ![0, 0] (hid x0 x1 x2 x3 x4) slices_S128x256_o0_0_S128x128 := by
  rw [← hid_eq]
  rfl

theorem max_eq : k0_pay188 x0 x1 x2 x3 x4 = maxVec (extractStridedSlice S128x128 ![0, 0] (hid x0 x1 x2 x3 x4) slices_S128x256_o0_0_S128x128) := by
  rw [← lo_eq]
  rfl

theorem hi_apply (r l : Fin 128) :
    k0_pay160 (hid x0 x1 x2 x3 x4) (ix2 r l) = blockHid x0 x1 x2 x3 x4 r (lane 1 l) := by
  rw [← hid_apply]
  unfold k0_pay160
  exact extractStridedSlice_apply _ _ _ _ (ix2 r (lane 1 l)) (by
    intro a
    match a with
    | ⟨0, _⟩ => exact (Nat.zero_add _).symm
    | ⟨1, _⟩ => rfl)

/-- The codes a block holds. -/
def blockCode (y : S128x256.Idx) : EReal :=
  clip (blockHid x0 x1 x2 x3 x4 (y 0) (y 1) * Cert.Quant.invOf (blockMax x0 x1 x2 x3 x4 (y 0) (⟨(y 1).val / 128, by have : (y 1).val < 256 := (y 1).isLt; omega⟩ : Fin 2)))

/-- The scales a block holds. -/
def blockScale (y : S1x128x2.Idx) : EReal := Cert.Quant.scaleOf (blockMax x0 x1 x2 x3 x4 (y 1) (y 2))

theorem blockCode_lane (r : Fin 128) (j : Fin 2) (l : Fin 128) (y : S128x256.Idx) (h0 : (y 0).val = r.val) (h1 : (y 1).val = 128 * j.val + l.val) :
    blockCode x0 x1 x2 x3 x4 y = clip (blockHid x0 x1 x2 x3 x4 r (lane j l) * Cert.Quant.invOf (blockMax x0 x1 x2 x3 x4 r j)) := by
  unfold blockCode
  have e0 : y 0 = r := Fin.ext h0
  have e1 : y 1 = lane j l := Fin.ext h1
  have e2 : (⟨(y 1).val / 128, by have : (y 1).val < 256 := (y 1).isLt; omega⟩ : Fin 2) = j := Fin.ext (by show (y 1).val / 128 = j.val; omega)
  rw [e2, e0, e1]

theorem out0_5_apply (y : S128x256.Idx) : out0_5 x0 x1 x2 x3 x4 y = blockCode x0 x1 x2 x3 x4 y := by
  unfold out0_5
  refine View.canon_apply_of_pieces (Val := Elt Ideal) (blockCode x0 x1 x2 x3 x4) _ ?_ y (cover0_5 _ _ y)
  intro p hp i
  rcases List.mem_cons.mp hp with rfl | hp
  · obtain ⟨r, l, rfl⟩ : ∃ (r l : Fin 128), i = ix2 r l := ⟨i 0, i 1, eq_ix2 i⟩
    refine Eq.trans ?_ (blockCode_lane x0 x1 x2 x3 x4 r 1 l (r0_122.emb (ix2 r l))
      ((emb_val (s := S128x256) ![0, 128] S128x128.size inb_S128x256_S128x128_0_128 (ix2 r l) 0).trans (Nat.zero_add _))
      (emb_val (s := S128x256) ![0, 128] S128x128.size inb_S128x256_S128x128_0_128 (ix2 r l) 1)).symm
    show k0_pay166 (k0_pay160 (k0_pay187 x0 x1 x2 x3 x4)) (k0_pay194 x0 x1 x2 x3 x4) (k0_pay195 x0 x1 x2 x3 x4) (k0_pay196 x0 x1 x2 x3 x4) 4#32 (ix2 r l) = _
    unfold k0_pay194 k0_pay195 k0_pay196
    rw [hid_eq]
    refine (codesHi _ r l).trans ?_
    simp only [hi_apply]
    rfl
  · obtain rfl := List.mem_singleton.mp hp
    obtain ⟨r, l, rfl⟩ : ∃ (r l : Fin 128), i = ix2 r l := ⟨i 0, i 1, eq_ix2 i⟩
    refine Eq.trans ?_ (blockCode_lane x0 x1 x2 x3 x4 r 0 l (r0_120.emb (ix2 r l))
      ((emb_val (s := S128x256) ![0, 0] S128x128.size inb_S128x256_S128x128_0_0 (ix2 r l) 0).trans (Nat.zero_add _))
      (emb_val (s := S128x256) ![0, 0] S128x128.size inb_S128x256_S128x128_0_0 (ix2 r l) 1)).symm
    show k0_pay158 (k0_pay150 (k0_pay183 x0 x1 x2 x3 x4) (k0_pay184 x0 x1 x2 x3 x4) (k0_pay185 x0 x1 x2 x3 x4) (k0_pay186 x0 x1 x2 x3 x4) (View.ld x4 r0_112) (View.ld x4 r0_113) (View.ld x4 r0_114) (View.ld x4 r0_115) (View.ld x4 r0_116) (View.ld x4 r0_117) (View.ld x4 r0_118) (View.ld x4 r0_119)) (k0_pay189 x0 x1 x2 x3 x4) (k0_pay190 x0 x1 x2 x3 x4) (k0_pay191 x0 x1 x2 x3 x4) (k0_pay192 x0 x1 x2 x3 x4) (k0_pay193 x0 x1 x2 x3 x4) (ix2 r l) = _
    unfold k0_pay189 k0_pay190 k0_pay191 k0_pay192 k0_pay193
    rw [lo_eq, max_eq]
    refine (codesLo _ r l).trans ?_
    simp only [lo_apply]
    rfl

theorem out0_6_apply (y : S1x128x2.Idx) : out0_6 x0 x1 x2 x3 x4 y = blockScale x0 x1 x2 x3 x4 y := by
  unfold out0_6
  refine View.canon_apply_of_pieces (Val := Elt Ideal) (blockScale x0 x1 x2 x3 x4) _ ?_ y (cover0_6 _ _ y)
  intro p hp i
  have h2 : (i 2).val < 1 := by
    rcases List.mem_cons.mp hp with rfl | hp
    · exact (i 2).isLt
    · obtain rfl := List.mem_singleton.mp hp
      exact (i 2).isLt
  rcases List.mem_cons.mp hp with rfl | hp
  · have e : blockScale x0 x1 x2 x3 x4 (r0_123.emb i) = Cert.Quant.scaleOf (blockMax x0 x1 x2 x3 x4 (i 1) 1) := by
      unfold blockScale
      have e1 : (r0_123.emb i) 1 = i 1 := Fin.ext ((emb_val (s := S1x128x2) _ _ _ _ _).trans (Nat.zero_add _))
      have e2 : (r0_123.emb i) 2 = (1 : Fin 2) := Fin.ext ((emb_val (s := S1x128x2) _ _ _ _ _).trans (by show 1 + (i 2).val = 1; omega))
      rw [e1, e2]
    rw [e]
    unfold k0_pay194 k0_pay195 k0_pay196
    rw [hid_eq]
    refine (scaleHi _ i (i 1) rfl).trans ?_
    unfold blockMax
    exact congrArg (fun f => Cert.Quant.scaleOf (rowMax f * recip)) (funext fun l => hi_apply x0 x1 x2 x3 x4 (i 1) l)
  · obtain rfl := List.mem_singleton.mp hp
    have e : blockScale x0 x1 x2 x3 x4 (r0_121.emb i) = Cert.Quant.scaleOf (blockMax x0 x1 x2 x3 x4 (i 1) 0) := by
      unfold blockScale
      have e1 : (r0_121.emb i) 1 = i 1 := Fin.ext ((emb_val (s := S1x128x2) _ _ _ _ _).trans (Nat.zero_add _))
      have e2 : (r0_121.emb i) 2 = (0 : Fin 2) := Fin.ext ((emb_val (s := S1x128x2) _ _ _ _ _).trans (by show 0 + (i 2).val = 0; omega))
      rw [e1, e2]
    rw [e]
    unfold k0_pay189 k0_pay190 k0_pay191 k0_pay192 k0_pay193
    rw [max_eq]
    refine (scaleLo _ i (i 1) rfl).trans ?_
    unfold blockMax
    exact congrArg (fun f => Cert.Quant.scaleOf (rowMax f * recip)) (funext fun l => lo_apply x0 x1 x2 x3 x4 (i 1) l)

end Cert.KernelIdeal.Block
-- ==== Proof.Spec.lean ====
/- What the two programs compute, element by element, as functions of the five argument arrays: the gated product, each
   128-column block's largest magnitude, and from it the codes and the scales. -/
module

public import proofs.«01_k».proof.Proof.KOut

@[expose] public section

noncomputable section

namespace Cert.Gate

open Idealize.ShloMosaic Idealize.ShloMosaic.ValueIdx Cert.KernelIdeal.Block

/-- The activations' shape. -/
abbrev SX : Shape := ⟨3, ![1, 128, 12288]⟩
/-- The packed codes' shape. -/
abbrev SW : Shape := ⟨2, ![6144, 24576]⟩
/-- The group scales' shape. -/
abbrev SS : Shape := ⟨2, ![96, 24576]⟩

variable (a0 : SX.Idx → EReal) (a1 : SW.Idx → BitVec 8) (a2 : SS.Idx → EReal) (a3 : SW.Idx → BitVec 8) (a4 : SS.Idx → EReal)

/-- The gated product at row `r`, column `n`. -/
def hid (r : Fin 128) (n : Fin 24576) : EReal :=
  hidden (fun K => a0 (ix3 (0 : Fin 1) r K)) (fun p => a1 (ix2 p n)) (fun g => a2 (ix2 g n)) (fun p => a3 (ix2 p n)) (fun g => a4 (ix2 g n))

/-- Lane `l` of block `b`. -/
def col (b : Fin 192) (l : Fin 128) : Fin 24576 := ⟨128 * b.val + l.val, by omega⟩

/-- Row `r`'s largest magnitude in block `b`. -/
def amax (r : Fin 128) (b : Fin 192) : EReal := rowMax fun l => hid a0 a1 a2 a3 a4 r (col b l)

/-- The code at row `r`, column `n`, before its rounding to the code's format (none here). -/
def code (r : Fin 128) (n : Fin 24576) : EReal :=
  clip (hid a0 a1 a2 a3 a4 r n * Cert.Quant.invOf (amax a0 a1 a2 a3 a4 r ⟨n.val / 128, by omega⟩ * recip))

/-- The scale of row `r` in block `b`. -/
def scale (r : Fin 128) (b : Fin 192) : EReal := Cert.Quant.scaleOf (amax a0 a1 a2 a3 a4 r b * recip)

end Cert.Gate
-- ==== Proof.RefValue.lean ====
/- The reference, read element by element: its projections, the gated product, each block's largest magnitude, and from it the
   scale and the clipped codes. -/
module

public import proofs.«01_k».proof.Proof.RefRead
public import proofs.«01_k».proof.Proof.Spec

@[expose] public section

set_option maxRecDepth 16384

noncomputable section

namespace Cert.ReferenceIdeal.Read

open Cert.ReferenceIdeal Cert.ReferenceIdeal.Gen Idealize.ShloMosaic Idealize.ShloMosaic.TcCoe Idealize.ShloMosaic.ValueIdx Idealize.SL.Sem
open Idealize.ShloMosaic.StableHlo Cert.Gate Cert.KernelIdeal.Block

variable (x0 : (⟨S1x128x12288, .bf16⟩ : BufTy).Contents (Elt Ideal)) (x1 : (⟨S6144x24576, .i8⟩ : BufTy).Contents (Elt Ideal)) (x2 : (⟨S96x24576, .bf16⟩ : BufTy).Contents (Elt Ideal))
  (x3 : (⟨S6144x24576, .i8⟩ : BufTy).Contents (Elt Ideal)) (x4 : (⟨S96x24576, .bf16⟩ : BufTy).Contents (Elt Ideal))

theorem ofBits_eight : Ideal.ofBits .bf16 0x4100#16 = ((8 : ℝ) : EReal) := by
  simp [Ideal.ofBits, Ideal.ieee]
  rw [← EReal.coe_mul]
  congr 1
  norm_num

theorem ofBits_two : Ideal.ofBits .f32 0x40000000#32 = ((2 : ℝ) : EReal) := by
  simp [Ideal.ofBits, Ideal.ieee]
  rw [← EReal.coe_mul]
  congr 1
  norm_num

theorem ofBits_one : Ideal.ofBits .f32 0x3F800000#32 = 1 := by
  simp [Ideal.ofBits, Ideal.ieee]
  rw [← EReal.coe_mul, ← EReal.coe_one]
  congr 1
  norm_num

theorem ofBits_126 : Ideal.ofBits .f32 0x42FC0000#32 = ((126 : ℝ) : EReal) := by
  simp [Ideal.ofBits, Ideal.ieee]
  rw [← EReal.coe_mul]
  congr 1
  norm_num

theorem ofBits_inf : Ideal.ofBits .f32 0x7F800000#32 = ⊤ := by
  simp [Ideal.ofBits, Ideal.ieee]

/-! ## The projections -/

/-- The even activations. -/
theorem v0_apply (r : Fin 128) (k : Fin 6144) : val_main_v0 (F := Ideal) x0 (ix3 (0 : Fin 1) r k) = x0 (ix3 (0 : Fin 1) r (⟨2 * k.val, by omega⟩ : Fin 12288)) := by
  unfold val_main_v0 Host.slice
  refine congrArg x0 (funext fun a => Fin.ext ?_)
  match a with
  | ⟨0, _⟩ => rfl
  | ⟨1, _⟩ => show 0 + 1 * r.val = r.val; omega
  | ⟨2, _⟩ => show 0 + 2 * k.val = 2 * k.val; omega

/-- The odd activations. -/
theorem v1_apply (r : Fin 128) (k : Fin 6144) : val_main_v1 (F := Ideal) x0 (ix3 (0 : Fin 1) r k) = x0 (ix3 (0 : Fin 1) r (⟨2 * k.val + 1, by omega⟩ : Fin 12288)) := by
  unfold val_main_v1 Host.slice
  refine congrArg x0 (funext fun a => Fin.ext ?_)
  match a with
  | ⟨0, _⟩ => rfl
  | ⟨1, _⟩ => show 0 + 1 * r.val = r.val; omega
  | ⟨2, _⟩ => show 1 + 2 * k.val = 2 * k.val + 1; omega

/-- A row's scale. -/
theorem v3_apply (p : Fin 6144) (n : Fin 24576) : val_main_v3 (F := Ideal) x2 (ix2 p n) = x2 (ix2 (⟨p.val / 64, by omega⟩ : Fin 96) n) := by
  rw [val_main_v3_apply, val_main_v2_apply]
  refine congrArg x2 (funext fun a => Fin.ext ?_)
  match a with
  | ⟨0, _⟩ => show (p.val * 24576 + n.val) / 1572864 = p.val / 64; omega
  | ⟨1, _⟩ => show (p.val * 24576 + n.val) % 24576 = n.val; omega

theorem v10_apply (p : Fin 6144) (n : Fin 24576) : val_main_v10 (F := Ideal) x1 x2 (ix2 p n)
    = (((Cert.Nibble.nib (x1 (ix2 p n)) 0 : ℤ) : ℝ) : EReal) * x2 (ix2 (⟨p.val / 64, by omega⟩ : Fin 96) n) := by
  rw [val_main_v10_apply, v3_apply, val_main_v9_apply, val_main_v7_apply, val_main_v6_apply, val_main_v5_apply, val_main_c_apply, val_main_v4_apply, val_main_v8_apply, val_main_cst_apply,
    ← Cert.Nibble.lo_toInt]
  show ((((IntOp.andi ((x1 (ix2 p n)).setWidth 32) 15#32).toInt : ℝ) : EReal) - Ideal.ofBits .bf16 0x4100#16) * _ = _
  rw [ofBits_eight, ← EReal.coe_sub]
  push_cast
  rfl

theorem v17_apply (p : Fin 6144) (n : Fin 24576) : val_main_v17 (F := Ideal) x1 x2 (ix2 p n)
    = (((Cert.Nibble.nib (x1 (ix2 p n)) 1 : ℤ) : ℝ) : EReal) * x2 (ix2 (⟨p.val / 64, by omega⟩ : Fin 96) n) := by
  rw [val_main_v17_apply, v3_apply, val_main_v16_apply, val_main_v14_apply, val_main_v13_apply, val_main_v12_apply, val_main_c_0_apply, val_main_v11_apply, val_main_v15_apply, val_main_cst_1_apply,
    ← Cert.Nibble.hi_toInt]
  show ((((IntOp.shrsi .host ((x1 (ix2 p n)).setWidth 32) 4#32).toInt : ℝ) : EReal) - Ideal.ofBits .bf16 0x4100#16) * _ = _
  rw [ofBits_eight, ← EReal.coe_sub]
  push_cast
  rfl

theorem sum_pairs (T : ℕ → EReal) (n : ℕ) : ∑ K ∈ Finset.range (2 * n), T K = ∑ k ∈ Finset.range n, T (2 * k) + ∑ k ∈ Finset.range n, T (2 * k + 1) := by
  induction n with
  | zero => simp
  | succ n ih =>
    rw [show 2 * (n + 1) = 2 * n + 1 + 1 by ring, Finset.sum_range_succ, Finset.sum_range_succ, ih, Finset.sum_range_succ, Finset.sum_range_succ]
    ac_rfl

/-- A projection is the whole sum over the contracted axis: its even terms, then its odd ones. -/
theorem v20_apply (r : Fin 128) (n : Fin 24576) : val_main_v20 (F := Ideal) x0 x1 x2 (ix3 (0 : Fin 1) r n)
    = proj (fun K => x0 (ix3 (0 : Fin 1) r K)) (fun p => x1 (ix2 p n)) (fun g => x2 (ix2 g n)) := by
  unfold proj
  rw [val_main_v20_apply, val_main_v18_apply, val_main_v19_apply]
  refine Eq.trans ?_ (sum_pairs _ 6144).symm
  rw [Finset.sum_range, Finset.sum_range]
  refine congrArg₂ (fun a b : EReal => a + b) (Finset.sum_congr rfl fun k _ => ?_) (Finset.sum_congr rfl fun k _ => ?_)
  · have el : lidx_main_v18 (ix3 (0 : Fin 1) r n) k = ix3 (0 : Fin 1) r k := by
      funext a; match a with | ⟨0, _⟩ => rfl | ⟨1, _⟩ => rfl | ⟨2, _⟩ => rfl
    have er : ridx_main_v18 (ix3 (0 : Fin 1) r n) k = ix2 k n := by
      funext a; match a with | ⟨0, _⟩ => rfl | ⟨1, _⟩ => rfl
    rw [el, er, v0_apply, v10_apply]
    unfold term
    have e1 : (⟨2 * k.val, by omega⟩ : Fin 12288) = Fin.ofNat 12288 (2 * k.val) := Fin.ext (by show 2 * k.val = 2 * k.val % 12288; omega)
    have e2 : k = Fin.ofNat 6144 (2 * k.val / 2) := Fin.ext (by show k.val = 2 * k.val / 2 % 6144; omega)
    have e3 : (⟨k.val / 64, by omega⟩ : Fin 96) = Fin.ofNat 96 (2 * k.val / 128) := Fin.ext (by show k.val / 64 = 2 * k.val / 128 % 96; omega)
    have e4 : 2 * k.val % 2 = 0 := by omega
    rw [e1, ← e2, e3, e4]
  · have el : lidx_main_v19 (ix3 (0 : Fin 1) r n) k = ix3 (0 : Fin 1) r k := by
      funext a; match a with | ⟨0, _⟩ => rfl | ⟨1, _⟩ => rfl | ⟨2, _⟩ => rfl
    have er : ridx_main_v19 (ix3 (0 : Fin 1) r n) k = ix2 k n := by
      funext a; match a with | ⟨0, _⟩ => rfl | ⟨1, _⟩ => rfl
    rw [el, er, v1_apply, v17_apply]
    unfold term
    have e1 : (⟨2 * k.val + 1, by omega⟩ : Fin 12288) = Fin.ofNat 12288 (2 * k.val + 1) := Fin.ext (by show 2 * k.val + 1 = (2 * k.val + 1) % 12288; omega)
    have e2 : k = Fin.ofNat 6144 ((2 * k.val + 1) / 2) := Fin.ext (by show k.val = (2 * k.val + 1) / 2 % 6144; omega)
    have e3 : (⟨k.val / 64, by omega⟩ : Fin 96) = Fin.ofNat 96 ((2 * k.val + 1) / 128) := Fin.ext (by show k.val / 64 = (2 * k.val + 1) / 128 % 96; omega)
    have e4 : (2 * k.val + 1) % 2 = 1 := by omega
    rw [e1, ← e2, e3, e4]

/-! ## The gated product and its blocks -/

theorem v41_apply (r : Fin 128) (n : Fin 24576) : val_main_v41 (F := Ideal) x0 x1 x2 x3 x4 (ix3 (0 : Fin 1) r n) = Gate.hid x0 x1 x2 x3 x4 r n := by
  rw [val_main_v41_apply, val_main_v40_apply, val_main_call0_v5_apply, val_main_call0_v4_apply, val_main_call0_cst_0_apply, val_main_call0_v3_apply,
    val_main_call0_v2_apply, val_main_call0_cst_apply, val_main_call0_v1_apply, val_main_call0_v0_apply, v20_apply, v20_apply]
  unfold Gate.hid Gate.hidden
  generalize proj _ _ _ = g
  generalize proj _ _ _ = u
  show g * Ideal.div (Ideal.ofBits .f32 0x3F800000#32) (Ideal.ofBits .f32 0x3F800000#32 + Ideal.exp (-g)) * u = g * Ideal.logistic g * u
  rw [ofBits_one]
  rfl

theorem v42_apply (r : Fin 128) (b : Fin 192) (l : Fin 128) : val_main_v42 (F := Ideal) x0 x1 x2 x3 x4 (ix4 (0 : Fin 1) r b l) = Gate.hid x0 x1 x2 x3 x4 r (col b l) := by
  rw [val_main_v42_apply, ← v41_apply]
  refine congrArg _ (funext fun a => Fin.ext ?_)
  match a with
  | ⟨0, _⟩ => rfl
  | ⟨1, _⟩ => show (((0 * 128 + r.val) * 192 + b.val) * 128 + l.val) / 24576 % 128 = r.val; omega
  | ⟨2, _⟩ => show (((0 * 128 + r.val) * 192 + b.val) * 128 + l.val) % 24576 = 128 * b.val + l.val; omega

theorem red128 : S1x128x192x128.Reduces [3] S1x128x192 := by decide
theorem red254 : S1x128x192x254.Reduces [3] S1x128x192 := by decide

theorem v44_apply (r : Fin 128) (b : Fin 192) : val_main_v44 (F := Ideal) x0 x1 x2 x3 x4 (ix3 (0 : Fin 1) r b) = amax x0 x1 x2 x3 x4 r b := by
  unfold val_main_v44
  refine (Host.reduce_eq_fold_single (α := EReal) max _ _ reducesTo_S1x128x192x128_S1x128x192_d3 red128 h_S_ (ix3 (0 : Fin 1) r b)).trans ?_
  unfold amax rowMax
  refine congrArg (Finset.fold max _ · _) (funext fun (l : Fin 128) => ?_)
  show _ = max (Gate.hid x0 x1 x2 x3 x4 r (col b l)) (-(Gate.hid x0 x1 x2 x3 x4 r (col b l)))
  rw [← v42_apply]
  refine (val_main_v43_apply _ _ _ _ _ _).trans ?_
  refine congrArg (fun i => max (val_main_v42 (F := Ideal) x0 x1 x2 x3 x4 i) (-(val_main_v42 (F := Ideal) x0 x1 x2 x3 x4 i))) (?_ : red128.lift (ix3 (0 : Fin 1) r b) l = ix4 (0 : Fin 1) r b l)
  funext a
  match a with
  | ⟨0, _⟩ => rfl
  | ⟨1, _⟩ => rfl
  | ⟨2, _⟩ => rfl
  | ⟨3, _⟩ => rfl

/-! ## The exponent, the scale and the codes -/

/-- The candidate exponents. -/
theorem v49_apply (i : Fin 254) : val_main_v49 (F := Ideal) (ix1 i) = (((i.val : ℝ) - 126 : ℝ) : EReal) := by
  rw [val_main_v49_apply, val_main_v48_apply, val_main_cst_8_apply]
  show (((BitVec.ofNat 32 i.val).toInt : ℝ) : EReal) - Ideal.ofBits .f32 0x42FC0000#32 = _
  have h : (BitVec.ofNat 32 i.val).toInt = (i.val : ℤ) := by
    have := i.isLt
    rw [BitVec.toInt_eq_toNat_of_lt (by rw [BitVec.toNat_ofNat]; omega), BitVec.toNat_ofNat]
    omega
  rw [ofBits_126, h, ← EReal.coe_sub]
  push_cast
  rfl

/-- The least candidate `e` with `a < 2 ^ e`. -/
def least (a : EReal) : EReal :=
  Finset.univ.fold min ⊤ (fun i : Fin 254 => Scalar.select (Ideal.cmp .olt a (Ideal.pow ((2 : ℝ) : EReal) (((i.val : ℝ) - 126 : ℝ) : EReal)))
      (((i.val : ℝ) - 126 : ℝ) : EReal) ⊤)

/-- The block's exponent: zero for a block of zeros. -/
def exponent (M : EReal) : EReal := Scalar.select (Ideal.cmp .oeq M 0) 0 (least (M * recip))

theorem v46_apply (r : Fin 128) (b : Fin 192) : val_main_v46 (F := Ideal) x0 x1 x2 x3 x4 (ix3 (0 : Fin 1) r b) = amax x0 x1 x2 x3 x4 r b * recip := by
  rw [val_main_v46_apply, v44_apply, val_main_v45_apply, val_main_cst_7_apply]
  rfl

theorem v57_apply (r : Fin 128) (b : Fin 192) (i : Fin 254) : val_main_v57 (F := Ideal) x0 x1 x2 x3 x4 (ix4 (0 : Fin 1) r b i)
    = Scalar.select (Ideal.cmp .olt (amax x0 x1 x2 x3 x4 r b * recip) (Ideal.pow ((2 : ℝ) : EReal) (((i.val : ℝ) - 126 : ℝ) : EReal)))
      (((i.val : ℝ) - 126 : ℝ) : EReal) ⊤ := by
  have e54 : idx_main_v50 (idx_main_v54 (ix4 (0 : Fin 1) r b i)) = ix3 (0 : Fin 1) r b := by
    funext a; match a with | ⟨0, _⟩ => rfl | ⟨1, _⟩ => rfl | ⟨2, _⟩ => rfl
  have e55 : idx_main_v53 (idx_main_v55 (ix4 (0 : Fin 1) r b i)) = ix1 i := by
    funext a; match a with | ⟨0, _⟩ => rfl
  have e1 : idx_main_call1_v1 (ix4 (0 : Fin 1) r b i) = ix1 i := by
    funext a; match a with | ⟨0, _⟩ => rfl
  rw [val_main_v57_apply, val_main_v56_apply, val_main_v54_apply, val_main_v50_apply, e54, v46_apply, val_main_v55_apply, val_main_v53_apply, e55, val_main_v52_apply,
    val_main_v51_apply, val_main_cst_9_apply, v49_apply, val_main_call1_v1_apply, e1, v49_apply, val_main_call1_v2_apply, val_main_call1_v0_apply, val_main_cst_10_apply]
  show Scalar.select (Ideal.cmp .olt _ (Ideal.pow (Ideal.ofBits .f32 0x40000000#32) _)) _ (Ideal.ofBits .f32 0x7F800000#32) = _
  rw [ofBits_two, ofBits_inf]

theorem fold_min_congr {n : ℕ} (b b' : EReal) (f g : Fin n → EReal) (hb : b = b') (h : ∀ i, f i = g i) :
    Finset.univ.fold min b f = Finset.univ.fold min b' g := by
  rw [hb, funext h]

theorem lift254 (r : Fin 128) (b : Fin 192) (i : Fin 254) : red254.lift (ix3 (0 : Fin 1) r b) i = ix4 (0 : Fin 1) r b i := by
  funext a
  match a with
  | ⟨0, _⟩ => rfl
  | ⟨1, _⟩ => rfl
  | ⟨2, _⟩ => rfl
  | ⟨3, _⟩ => rfl

theorem reduce254 (y : S1x128x192x254.Idx → EReal) (init : S_.Idx → EReal) (j : S1x128x192.Idx) :
    Host.reduce (FloatOps.minimumf (F := Ideal) (φ := .f32)) y init reducesTo_S1x128x192x254_S1x128x192_d3 h_S_ j
      = (Finset.univ : Finset (Fin 254)).fold min (init (Shape.Idx.first h_S_)) (fun i : Fin 254 => y (red254.lift j i)) :=
  Host.reduce_eq_fold_single (α := EReal) min _ _ reducesTo_S1x128x192x254_S1x128x192_d3 red254 h_S_ j

theorem v58_apply (r : Fin 128) (b : Fin 192) : val_main_v58 (F := Ideal) x0 x1 x2 x3 x4 (ix3 (0 : Fin 1) r b) = least (amax x0 x1 x2 x3 x4 r b * recip) := by
  have hv := v57_apply x0 x1 x2 x3 x4 r b
  unfold val_main_v58
  generalize val_main_v57 (F := Ideal) x0 x1 x2 x3 x4 = y at hv ⊢
  rw [reduce254]
  have e : (fun i : Fin 254 => y (red254.lift (ix3 (0 : Fin 1) r b) i)) = fun i : Fin 254 => y (ix4 (0 : Fin 1) r b i) :=
    funext fun i => by rw [lift254]
  rw [e, funext hv, val_main_cst_11_apply]
  unfold least
  rw [← ofBits_inf]
  rfl

theorem v61_apply (r : Fin 128) (b : Fin 192) : val_main_v61 (F := Ideal) x0 x1 x2 x3 x4 (ix3 (0 : Fin 1) r b) = exponent (amax x0 x1 x2 x3 x4 r b) := by
  rw [val_main_v61_apply, val_main_v60_apply, v44_apply, val_main_v59_apply, val_main_cst_12_apply, val_main_call2_v1_apply, val_main_call2_v0_apply, val_main_cst_13_apply, v58_apply]
  show Scalar.select (Ideal.cmp .oeq _ (Ideal.ofBits .f32 0x00000000#32)) (Ideal.ofBits .f32 0x00000000#32) _ = _
  rw [Ideal.ofBits_zero_f32]
  rfl

theorem v63_apply (r : Fin 128) (b : Fin 192) : val_main_v63 (F := Ideal) x0 x1 x2 x3 x4 (ix3 (0 : Fin 1) r b) = Ideal.pow ((2 : ℝ) : EReal) (exponent (amax x0 x1 x2 x3 x4 r b)) := by
  rw [val_main_v63_apply, v61_apply, val_main_v62_apply, val_main_cst_14_apply]
  show Ideal.pow (Ideal.ofBits .f32 0x40000000#32) _ = _
  rw [ofBits_two]

theorem v70_apply (r : Fin 128) (b : Fin 192) (l : Fin 128) : val_main_v70 (F := Ideal) x0 x1 x2 x3 x4 (ix4 (0 : Fin 1) r b l)
    = clip (Gate.hid x0 x1 x2 x3 x4 r (col b l) * Ideal.pow ((2 : ℝ) : EReal) (-(exponent (amax x0 x1 x2 x3 x4 r b)))) := by
  have e68 : idx_main_v67 (idx_main_v68 (ix4 (0 : Fin 1) r b l)) = ix3 (0 : Fin 1) r b := by
    funext a; match a with | ⟨0, _⟩ => rfl | ⟨1, _⟩ => rfl | ⟨2, _⟩ => rfl
  rw [val_main_v70_apply, val_main_call3_v4_apply, val_main_call3_v3_apply, val_main_cst_17_apply, val_main_call3_v2_apply, val_main_call3_v1_apply, val_main_call3_v0_apply,
    val_main_cst_16_apply, val_main_v69_apply, v42_apply, val_main_v68_apply, val_main_v67_apply, e68, val_main_v66_apply, val_main_v65_apply, val_main_cst_15_apply, val_main_v64_apply, v61_apply]
  unfold clip
  show min _ (max _ (_ * Ideal.pow (Ideal.ofBits .f32 0x40000000#32) _)) = _
  rw [ofBits_two]
  rfl

end Cert.ReferenceIdeal.Read

end
-- ==== Proof.Bound.lean ====
/- The sizes of everything on the way from the arguments to a block's scale. The precondition makes the activations and the
   group scales reals of magnitude at most 2 ^ 25; from that every projection, every gated product and every block's largest
   magnitude is a real, and the last one over 448 is below 2 ^ 126. There the two ways of choosing the scale agree. -/
module

public import proofs.«01_k».proof.Proof.RefValue
public import proofs.«01_k».proof.Proof.Gen.Pre_moderate
public import Idealize.ShloMosaic.Lib.ReduceAll

@[expose] public section

noncomputable section

namespace Cert.Bound

open Idealize.ShloMosaic Idealize.ShloMosaic.ValueIdx Cert.Gate Cert.KernelIdeal.Block Cert.ReferenceIdeal.Read

/-- `t` is a real of magnitude at most `B`. -/
def Within (t : EReal) (B : ℝ) : Prop := ∃ r : ℝ, t = (r : EReal) ∧ |r| ≤ B

theorem within_mul {a b : EReal} {A B : ℝ} (ha : Within a A) (hb : Within b B) : Within (a * b) (A * B) := by
  obtain ⟨r, rfl, hr⟩ := ha
  obtain ⟨q, rfl, hq⟩ := hb
  refine ⟨r * q, (EReal.coe_mul r q).symm, ?_⟩
  rw [abs_mul]
  exact mul_le_mul hr hq (abs_nonneg q) (le_trans (abs_nonneg r) hr)

theorem within_sum (T : ℕ → EReal) (B : ℝ) (h : ∀ K, Within (T K) B) (n : ℕ) : Within (∑ K ∈ Finset.range n, T K) (n * B) := by
  induction n with
  | zero => exact ⟨0, by simp, by simp⟩
  | succ n ih =>
    obtain ⟨r, hr, hb⟩ := ih
    obtain ⟨q, hq, hc⟩ := h n
    refine ⟨r + q, by rw [Finset.sum_range_succ, hr, hq, EReal.coe_add], ?_⟩
    have := abs_add_le r q
    push_cast
    linarith

theorem within_mono {t : EReal} {A B : ℝ} (h : Within t A) (hAB : A ≤ B) : Within t B := by
  obtain ⟨r, hr, hb⟩ := h
  exact ⟨r, hr, le_trans hb hAB⟩

theorem within_nib (b : BitVec 8) (p : ℕ) : Within (((Cert.Nibble.nib b p : ℤ) : ℝ) : EReal) 8 := by
  refine ⟨_, rfl, ?_⟩
  unfold Cert.Nibble.nib
  have h := (b.extractLsb' (4 * p) 4).isLt
  have h' : (((b.extractLsb' (4 * p) 4).toNat : ℤ) : ℝ) < 16 := by exact_mod_cast h
  have h0 : (0 : ℝ) ≤ (((b.extractLsb' (4 * p) 4).toNat : ℤ) : ℝ) := by exact_mod_cast Nat.zero_le _
  push_cast at *
  rw [abs_le]
  constructor <;> linarith

theorem within_proj (x : Fin 12288 → EReal) (w : Fin 6144 → BitVec 8) (s : Fin 96 → EReal)
    (hx : ∀ K, Within (x K) (2 ^ 25)) (hs : ∀ g, Within (s g) (2 ^ 25)) : Within (proj x w s) (2 ^ 67) := by
  refine within_mono (within_sum _ (2 ^ 25 * (8 * 2 ^ 25)) (fun K => ?_) 12288) (by norm_num)
  exact within_mul (hx _) (within_mul (within_nib _ _) (hs _))

theorem within_logistic {g : EReal} {G : ℝ} (h : Within g G) : Within (Ideal.logistic g) 1 := by
  obtain ⟨r, rfl, _⟩ := h
  refine ⟨_, Ideal.logistic_coe r, ?_⟩
  have hp := Real.exp_pos (-r)
  rw [abs_of_nonneg (by positivity)]
  exact inv_le_one_of_one_le₀ (by linarith)

variable (a0 : SX.Idx → EReal) (a1 : SW.Idx → BitVec 8) (a2 : SS.Idx → EReal) (a3 : SW.Idx → BitVec 8) (a4 : SS.Idx → EReal)

theorem within_hid (h0 : ∀ i, Within (a0 i) (2 ^ 25)) (h2 : ∀ i, Within (a2 i) (2 ^ 25)) (h4 : ∀ i, Within (a4 i) (2 ^ 25))
    (r : Fin 128) (n : Fin 24576) : Within (Gate.hid a0 a1 a2 a3 a4 r n) (2 ^ 134) := by
  unfold Gate.hid Gate.hidden
  have hg := within_proj (fun K => a0 (ix3 (0 : Fin 1) r K)) (fun p => a1 (ix2 p n)) (fun g => a2 (ix2 g n)) (fun K => h0 _) (fun g => h2 _)
  have hu := within_proj (fun K => a0 (ix3 (0 : Fin 1) r K)) (fun p => a3 (ix2 p n)) (fun g => a4 (ix2 g n)) (fun K => h0 _) (fun g => h4 _)
  exact within_mono (within_mul (within_mul hg (within_logistic hg)) hu) (by norm_num)

theorem ofBits_neg_inf : Ideal.ofBits .f32 0xFF800000#32 = ⊥ := by
  simp [Ideal.ofBits, Ideal.ieee]

/-- A row's largest magnitude is a nonnegative real within the bound. -/
theorem rowMax_real (f : Fin 128 → EReal) (B : ℝ) (h : ∀ l, Within (f l) B) : ∃ M : ℝ, rowMax f = (M : EReal) ∧ 0 ≤ M ∧ M ≤ B := by
  have hv : ∀ l, (0 : EReal) ≤ max (f l) (-f l) ∧ max (f l) (-f l) ≤ (B : EReal) := by
    intro l
    obtain ⟨r, hr, hb⟩ := h l
    rw [hr, ← EReal.coe_neg]
    have := abs_le.mp hb
    refine ⟨?_, max_le (by exact_mod_cast this.2) (by exact_mod_cast (by linarith [this.1] : -r ≤ B))⟩
    rcases le_total 0 r with hp | hn
    · exact le_trans (by exact_mod_cast hp) (le_max_left _ _)
    · exact le_trans (by exact_mod_cast (by linarith : (0 : ℝ) ≤ -r)) (le_max_right _ _)
  have lo : (0 : EReal) ≤ rowMax f := by
    unfold rowMax
    rw [Finset.le_fold_max]
    exact Or.inr ⟨0, Finset.mem_univ _, (hv 0).1⟩
  have hi : rowMax f ≤ (B : EReal) := by
    unfold rowMax
    rw [Finset.fold_max_le]
    exact ⟨by rw [ofBits_neg_inf]; exact bot_le, fun l _ => (hv l).2⟩
  have e : rowMax f = ((rowMax f).toReal : EReal) :=
    (EReal.coe_toReal (ne_of_lt (lt_of_le_of_lt hi (EReal.coe_lt_top B))) (ne_of_gt (lt_of_lt_of_le (EReal.bot_lt_coe 0) lo))).symm
  refine ⟨(rowMax f).toReal, e, ?_, ?_⟩
  · rw [e] at lo; exact_mod_cast lo
  · rw [e] at hi; exact_mod_cast hi

/-- The multiplier of the largest magnitude, about 1 / 448. -/
theorem recip_real : recip = ((9586981 / 2 ^ 32 : ℝ) : EReal) := by
  unfold recip
  simp [Ideal.ofBits, Ideal.ieee]
  rw [← EReal.coe_mul]
  congr 1

theorem exponent_zero : exponent 0 = 0 := by
  unfold exponent
  simp [Ideal.cmp, Scalar.select]

theorem exponent_ne (M : ℝ) (h : M ≠ 0) : exponent (M : EReal) = least ((M : EReal) * recip) := by
  unfold exponent
  have : ¬ ((M : EReal) = 0) := by exact_mod_cast h
  simp [Ideal.cmp, Scalar.select, this]

/-- For a block whose largest magnitude is a nonnegative real at most 2 ^ 134, the reference's two powers of two are the
    kernel's scale and inverse. -/
theorem scales_agree (M : ℝ) (h0 : 0 ≤ M) (h1 : M ≤ 2 ^ 134) :
    Ideal.pow ((2 : ℝ) : EReal) (exponent (M : EReal)) = Cert.Quant.scaleOf ((M : EReal) * recip)
      ∧ Ideal.pow ((2 : ℝ) : EReal) (-(exponent (M : EReal))) = Cert.Quant.invOf ((M : EReal) * recip) := by
  by_cases hz : M = 0
  · subst hz
    have e : ((0 : ℝ) : EReal) * recip = 0 := by rw [EReal.coe_zero, zero_mul]
    rw [e, EReal.coe_zero, exponent_zero, Cert.Quant.scaleOf_zero.1, Cert.Quant.scaleOf_zero.2, neg_zero]
    have : Ideal.pow ((2 : ℝ) : EReal) 0 = 1 := by
      rw [← EReal.coe_zero, Ideal.pow_coe_coe]
      show (((2 : ℝ) ^ (0 : ℝ) : ℝ) : EReal) = 1
      rw [Real.rpow_zero, EReal.coe_one]
    exact ⟨this, this⟩
  · rw [exponent_ne M hz, recip_real, ← EReal.coe_mul]
    have hpos : 0 < M := lt_of_le_of_ne h0 (Ne.symm hz)
    have ha : M * (9586981 / 2 ^ 32) ≠ 0 := mul_ne_zero hz (by norm_num)
    have hlt : M * (9586981 / 2 ^ 32) < (2 : ℝ) ^ (126 : ℤ) := by
      have : M * (9586981 / 2 ^ 32) ≤ 2 ^ 134 * (9586981 / 2 ^ 32) := mul_le_mul_of_nonneg_right h1 (by norm_num)
      refine lt_of_le_of_lt this ?_
      norm_num
    generalize M * (9586981 / 2 ^ 32) = a at ha hlt
    obtain ⟨E, hE, hl⟩ := Cert.Quant.ladder_spec a hlt
    have hs := Cert.Quant.scaleOf_of_ne a E hE hl ha
    have hleast : least (a : EReal) = (((E : ℝ) - 126 : ℝ) : EReal) := Cert.Quant.leastExponent a E hE
    rw [hs.1, hs.2, hleast, ← EReal.coe_neg, Ideal.pow_coe_coe, Ideal.pow_coe_coe]
    constructor
    · congr 1
      show (2 : ℝ) ^ ((E : ℝ) - 126) = _
      rw [← Real.rpow_intCast]
      push_cast; rfl
    · congr 1
      show (2 : ℝ) ^ (-((E : ℝ) - 126)) = _
      rw [← Real.rpow_intCast]
      push_cast
      congr 1
      ring

/-- One element under the precondition's comparison. -/
theorem within_of_le (x : EReal) (h : Ideal.cmp .ole (max x (-x)) (Ideal.ofBits .bf16 0x4C00#16) = 1#1) : Within x (2 ^ 25) := by
  have hb : Ideal.ofBits .bf16 0x4C00#16 = ((2 ^ 25 : ℝ) : EReal) := by
    simp [Ideal.ofBits, Ideal.ieee]
    rw [← EReal.coe_pow, ← EReal.coe_pow, ← EReal.coe_mul]
    congr 1
    norm_num
  rw [hb] at h
  have hle : max x (-x) ≤ ((2 ^ 25 : ℝ) : EReal) := by
    by_contra hc
    have e : Ideal.cmp .ole (max x (-x)) ((2 ^ 25 : ℝ) : EReal) = 0#1 := by
      show BitVec.ofBool (decide _) = _
      rw [decide_eq_false hc]
      rfl
    rw [e] at h
    exact absurd h (by decide)
  have h1 := le_trans (le_max_left _ _) hle
  have h2 := le_trans (le_max_right _ _) hle
  have ht : x ≠ ⊤ := ne_of_lt (lt_of_le_of_lt h1 (EReal.coe_lt_top _))
  have hbt : x ≠ ⊥ := by
    rintro rfl
    rw [EReal.neg_bot] at h2
    exact absurd (lt_of_le_of_lt h2 (EReal.coe_lt_top _)) (lt_irrefl _)
  have e : x = ((x.toReal : ℝ) : EReal) := (EReal.coe_toReal ht hbt).symm
  refine ⟨x.toReal, e, ?_⟩
  rw [e] at h1 h2
  rw [← EReal.coe_neg] at h2
  have g1 := EReal.coe_le_coe_iff.mp h1
  have g2 := EReal.coe_le_coe_iff.mp h2
  rw [abs_le]
  constructor <;> linarith

/-- What the precondition says of the arguments. -/
theorem within_args (hp : Cert.Pre_moderate.fn (F := Ideal) a0 a1 a2 a3 a4 = fun _ => 1#1) :
    (∀ i, Within (a0 i) (2 ^ 25)) ∧ (∀ i, Within (a2 i) (2 ^ 25)) ∧ (∀ i, Within (a4 i) (2 ^ 25)) := by
  have h := congrFun hp (fun a => a.elim0)
  unfold Cert.Pre_moderate.fn at h
  obtain ⟨h12, h3⟩ := IntOp.andi_eq_one.1 h
  obtain ⟨h1, h2⟩ := IntOp.andi_eq_one.1 h12
  haveI : Subsingleton Cert.Pre_moderate.S_.Idx := ⟨fun a b => funext fun k => k.elim0⟩
  exact ⟨fun i => within_of_le _ (Host.reduce_andi_all _ _ _ _ _ h1 i), fun i => within_of_le _ (Host.reduce_andi_all _ _ _ _ _ h2 i),
    fun i => within_of_le _ (Host.reduce_andi_all _ _ _ _ _ h3 i)⟩

end Cert.Bound

end
-- ==== Proof.KArray.lean ====
/- What the kernel program's two results hold after its run, element by element. -/
module

public import proofs.«01_k».proof.Proof.Spec
public import Idealize.ShloMosaic.Lib.StableHlo.Run

@[expose] public section

set_option maxRecDepth 16384

noncomputable section

namespace Cert.KernelIdeal.Block

open Cert.KernelIdeal Cert.KernelIdeal.Gen Idealize.ShloMosaic Idealize.ShloMosaic.TcCoe Idealize.ShloMosaic.ValueIdx Idealize.SL.Sem Cert.Gate
open Idealize.ShloMosaic.StableHlo

variable (m : (ℓ : Loc nD τ sig) → Buf (Elt Ideal) ℓ)

abbrev A0 (c : Dev nD) : SX.Idx → EReal := m ((c : Thread nD τ).loc main_arg0)
abbrev A1 (c : Dev nD) : SW.Idx → BitVec 8 := m ((c : Thread nD τ).loc main_arg1)
abbrev A2 (c : Dev nD) : SS.Idx → EReal := m ((c : Thread nD τ).loc main_arg2)
abbrev A3 (c : Dev nD) : SW.Idx → BitVec 8 := m ((c : Thread nD τ).loc main_arg3)
abbrev A4 (c : Dev nD) : SS.Idx → EReal := m ((c : Thread nD τ).loc main_arg4)

theorem N0 : cfg0.N = 96 := by decide

/-- A column of the array from a grid point and a column of its block. -/
def gcol (t : Fin cfg0.N) (n : Fin 256) : Fin 24576 := ⟨t.val * 256 + n.val, by have := t.isLt; have := N0; omega⟩

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 3) = t.val ∧ win0_6.index t (1 : Fin 3) = 0 ∧ win0_6.index t (2 : Fin 3) = 0 := (by decide +kernel : ∀ t : Fin grid0.N, _)

/-- The activations as the grid finds them. -/
theorem V_main_v0 (c : Dev nD) : V m c main_v0 = shapeCast S128x12288 (A0 m c) shapeCasts_S1x128x12288_S128x12288 := by
  show StableHlo.after _ _ _ = _
  simp only [hostOps0, List.flatten_cons, List.flatten_nil, List.append_nil, List.cons_append, List.nil_append, TRef.toBuf, TRef.ofBuf, cast_eq]
  after_results_simp <;> rfl

theorem blk0 (c : Dev nD) (t : Fin cfg0.N) (r : Fin 128) (K : Fin 12288) : iblk m c 0 t (ix2 r K) = A0 m c (ix3 (0 : Fin 1) r K) := by
  obtain ⟨e0, e1⟩ := idx0 t
  show V m c main_v0 (((cfg0.win 0).blk t).view.emb (ix2 r K)) = _
  have he : ((cfg0.win 0).blk t).view.emb (ix2 r K) = (ix2 r K : S128x12288.Idx) := by
    funext a; apply Fin.ext
    match a with
    | ⟨0, _⟩ => show win0_0.index t (0 : Fin 2) * 128 + 1 * r.val = r.val; omega
    | ⟨1, _⟩ => show win0_0.index t (1 : Fin 2) * 12288 + 1 * K.val = K.val; omega
  rw [he, V_main_v0]
  exact shapeCast_apply _ _ _ (ix3 (0 : Fin 1) r K) (by
    rw [Shape.rowMajor_val_three, Shape.rowMajor_val_two]
    show (0 * 128 + r.val) * 12288 + K.val = r.val * 12288 + K.val
    omega)

theorem blk1 (c : Dev nD) (t : Fin cfg0.N) (p : Fin 6144) (n : Fin 256) : iblk m c 1 t (ix2 p n) = A1 m c (ix2 p (gcol t n)) := by
  obtain ⟨e0, e1⟩ := idx1 t
  show V m c main_arg1 (((cfg0.win 1).blk t).view.emb (ix2 p n)) = _
  have he : ((cfg0.win 1).blk t).view.emb (ix2 p n) = (ix2 p (gcol t n) : S6144x24576.Idx) := by
    funext a; apply Fin.ext
    match a with
    | ⟨0, _⟩ => show win0_1.index t (0 : Fin 2) * 6144 + 1 * p.val = p.val; omega
    | ⟨1, _⟩ => show win0_1.index t (1 : Fin 2) * 256 + 1 * n.val = t.val * 256 + n.val; omega
  rw [he, V_main_arg1]

theorem blk2 (c : Dev nD) (t : Fin cfg0.N) (p : Fin 96) (n : Fin 256) : iblk m c 2 t (ix2 p n) = A2 m c (ix2 p (gcol t n)) := by
  obtain ⟨e0, e1⟩ := idx2 t
  show V m c main_arg2 (((cfg0.win 2).blk t).view.emb (ix2 p n)) = _
  have he : ((cfg0.win 2).blk t).view.emb (ix2 p n) = (ix2 p (gcol t n) : S96x24576.Idx) := by
    funext a; apply Fin.ext
    match a with
    | ⟨0, _⟩ => show win0_2.index t (0 : Fin 2) * 96 + 1 * p.val = p.val; omega
    | ⟨1, _⟩ => show win0_2.index t (1 : Fin 2) * 256 + 1 * n.val = t.val * 256 + n.val; omega
  rw [he, V_main_arg2]

theorem blk3 (c : Dev nD) (t : Fin cfg0.N) (p : Fin 6144) (n : Fin 256) : iblk m c 3 t (ix2 p n) = A3 m c (ix2 p (gcol t n)) := by
  obtain ⟨e0, e1⟩ := idx3 t
  show V m c main_arg3 (((cfg0.win 3).blk t).view.emb (ix2 p n)) = _
  have he : ((cfg0.win 3).blk t).view.emb (ix2 p n) = (ix2 p (gcol t n) : S6144x24576.Idx) := by
    funext a; apply Fin.ext
    match a with
    | ⟨0, _⟩ => show win0_3.index t (0 : Fin 2) * 6144 + 1 * p.val = p.val; omega
    | ⟨1, _⟩ => show win0_3.index t (1 : Fin 2) * 256 + 1 * n.val = t.val * 256 + n.val; omega
  rw [he, V_main_arg3]

theorem blk4 (c : Dev nD) (t : Fin cfg0.N) (p : Fin 96) (n : Fin 256) : iblk m c 4 t (ix2 p n) = A4 m c (ix2 p (gcol t n)) := by
  obtain ⟨e0, e1⟩ := idx4 t
  show V m c main_arg4 (((cfg0.win 4).blk t).view.emb (ix2 p n)) = _
  have he : ((cfg0.win 4).blk t).view.emb (ix2 p n) = (ix2 p (gcol t n) : S96x24576.Idx) := by
    funext a; apply Fin.ext
    match a with
    | ⟨0, _⟩ => show win0_4.index t (0 : Fin 2) * 96 + 1 * p.val = p.val; omega
    | ⟨1, _⟩ => show win0_4.index t (1 : Fin 2) * 256 + 1 * n.val = t.val * 256 + n.val; omega
  rw [he, V_main_arg4]

/-- The codes' array after the run. -/
def G5 (c : Dev nD) : Vec Ideal S128x24576 .fp8e4m3 := fun i => code (A0 m c) (A1 m c) (A2 m c) (A3 m c) (A4 m c) (i 0) (i 1)

/-- The scales' array after the run. -/
def G6 (c : Dev nD) : Vec Ideal S96x128x2 .f32 := fun i =>
  scale (A0 m c) (A1 m c) (A2 m c) (A3 m c) (A4 m c) (i 1) ⟨2 * (i 0).val + (i 2).val, by
    have h0 : (i 0).val < 96 := (i 0).isLt
    have h2 : (i 2).val < 2 := (i 2).isLt
    omega⟩

theorem blockHid_eq (c : Dev nD) (t : Fin cfg0.N) (r : Fin 128) (n : Fin 256) :
    blockHid (iblk m c 0 t) (iblk m c 1 t) (iblk m c 2 t) (iblk m c 3 t) (iblk m c 4 t) r n
      = Gate.hid (A0 m c) (A1 m c) (A2 m c) (A3 m c) (A4 m c) r (gcol t n) := by
  unfold blockHid Gate.hid
  simp only [blk0, blk1, blk2, blk3, blk4]

theorem blockMax_eq (c : Dev nD) (t : Fin cfg0.N) (r : Fin 128) (j : Fin 2) (b : Fin 192) (hb : b.val = 2 * t.val + j.val) :
    blockMax (iblk m c 0 t) (iblk m c 1 t) (iblk m c 2 t) (iblk m c 3 t) (iblk m c 4 t) r j
      = amax (A0 m c) (A1 m c) (A2 m c) (A3 m c) (A4 m c) r b * recip := by
  unfold blockMax amax
  refine congrArg (fun f => rowMax f * recip) (funext fun l => ?_)
  rw [blockHid_eq]
  refine congrArg (Gate.hid _ _ _ _ _ r) (Fin.ext ?_)
  show t.val * 256 + (128 * j.val + l.val) = 128 * b.val + l.val
  omega

theorem final5 (c : Dev nD) : (dats m 0 c).arrAt 5 cfg0.N = G5 m c := by
  refine (dats m 0 c).arrAt_eq_of_cover 5 (G5 m c) (fun t _ => ?_) ?_
  · show (cfg0.win 5).cut (grid0.coords t) ((dats m 0 c).after 5 t) = _
    rw [after0_5]
    funext y
    obtain ⟨e0, e1⟩ := idx5 t
    show out0_5 (F := Ideal) _ _ _ _ _ (fun a => ⟨(y a).val, _⟩) = G5 m c (((cfg0.win 5).blk t).view.emb y)
    obtain ⟨r, n, hy⟩ : ∃ (r : Fin 128) (n : Fin 256), y = ix2 r n := ⟨y 0, y 1, eq_ix2 y⟩
    subst hy
    have he : ((cfg0.win 5).blk t).view.emb (ix2 r n) = (ix2 r (gcol t n) : S128x24576.Idx) := by
      funext a; apply Fin.ext
      match a with
      | ⟨0, _⟩ => show win0_5.index t (0 : Fin 2) * 128 + 1 * r.val = r.val; omega
      | ⟨1, _⟩ => show win0_5.index t (1 : Fin 2) * 256 + 1 * n.val = t.val * 256 + n.val; omega
    rw [he]
    refine (out0_5_apply _ _ _ _ _ (ix2 r n)).trans ?_
    unfold blockCode G5 code
    rw [blockHid_eq, blockMax_eq m c t _ _ ⟨(gcol t n).val / 128, by omega⟩ (by
      show (t.val * 256 + n.val) / 128 = 2 * t.val + n.val / 128
      omega)]
  · intro (i : S128x24576.Idx)
    have h1 : (i 1).val < 24576 := (i 1).isLt
    have hN := N0
    obtain ⟨t, ht⟩ : ∃ t : Fin cfg0.N, t.val = (i 1).val / 256 := ⟨⟨(i 1).val / 256, by omega⟩, rfl⟩
    obtain ⟨n, hn⟩ : ∃ n : Fin 256, n.val = (i 1).val % 256 := ⟨⟨(i 1).val % 256, by omega⟩, rfl⟩
    refine ⟨t, flush0_5 _, ?_⟩
    have h := ((cfg0.win 5).blk t).view.emb_mem_set (ix2 (i 0) n)
    have he : ((cfg0.win 5).blk t).view.emb (ix2 (i 0) n) = (i : S128x24576.Idx) := by
      obtain ⟨e0, e1⟩ := idx5 t
      funext a; apply Fin.ext
      match a with
      | ⟨0, _⟩ => show win0_5.index t (0 : Fin 2) * 128 + 1 * (i 0).val = (i 0).val; omega
      | ⟨1, _⟩ => show win0_5.index t (1 : Fin 2) * 256 + 1 * n.val = (i 1).val; omega
    rwa [he] at h

theorem final6 (c : Dev nD) : (dats m 0 c).arrAt 6 cfg0.N = G6 m c := by
  refine (dats m 0 c).arrAt_eq_of_cover 6 (G6 m c) (fun t _ => ?_) ?_
  · show (cfg0.win 6).cut (grid0.coords t) ((dats m 0 c).after 6 t) = _
    rw [after0_6]
    funext y
    obtain ⟨e0, e1, e2⟩ := idx6 t
    show out0_6 (F := Ideal) _ _ _ _ _ (fun a => ⟨(y a).val, _⟩) = G6 m c (((cfg0.win 6).blk t).view.emb y)
    have h0 : (y 0).val < 1 := (y 0).isLt
    have ht : t.val < 96 := by have := t.isLt; have := N0; omega
    have he : ((cfg0.win 6).blk t).view.emb y = (ix3 (⟨t.val, ht⟩ : Fin 96) (y 1) (y 2) : S96x128x2.Idx) := by
      funext a; apply Fin.ext
      match a with
      | ⟨0, _⟩ => show win0_6.index t (0 : Fin 3) * 1 + 1 * (y 0).val = t.val; omega
      | ⟨1, _⟩ => show win0_6.index t (1 : Fin 3) * 128 + 1 * (y 1).val = (y 1).val; omega
      | ⟨2, _⟩ => show win0_6.index t (2 : Fin 3) * 2 + 1 * (y 2).val = (y 2).val; omega
    rw [he]
    refine (out0_6_apply _ _ _ _ _ _).trans ?_
    unfold blockScale G6 scale
    exact congrArg Cert.Quant.scaleOf (blockMax_eq m c t _ _ _ rfl)
  · intro (i : S96x128x2.Idx)
    have h0 : (i 0).val < 96 := (i 0).isLt
    have hN := N0
    obtain ⟨t, ht⟩ : ∃ t : Fin cfg0.N, t.val = (i 0).val := ⟨⟨(i 0).val, by omega⟩, rfl⟩
    refine ⟨t, flush0_6 _, ?_⟩
    have h := ((cfg0.win 6).blk t).view.emb_mem_set (ix3 (0 : Fin 1) (i 1) (i 2))
    have he : ((cfg0.win 6).blk t).view.emb (ix3 (0 : Fin 1) (i 1) (i 2)) = (i : S96x128x2.Idx) := by
      obtain ⟨e0, e1, e2⟩ := idx6 t
      funext a; apply Fin.ext
      match a with
      | ⟨0, _⟩ => show win0_6.index t (0 : Fin 3) * 1 + 1 * 0 = (i 0).val; omega
      | ⟨1, _⟩ => show win0_6.index t (1 : Fin 3) * 128 + 1 * (i 1).val = (i 1).val; omega
      | ⟨2, _⟩ => show win0_6.index t (2 : Fin 3) * 2 + 1 * (i 2).val = (i 2).val; omega
    rwa [he] at h

theorem arrRef_inj : Function.Injective (Pipeline.arrRef spec0) := by decide

/-- The run's codes, in the result's shape. -/
def codes (c : Dev nD) : Vec Ideal S1x128x24576 .fp8e4m3 := shapeCast S1x128x24576 (G5 m c) shapeCasts_S128x24576_S1x128x24576

/-- The run's scales, in the result's shape. -/
def scales (c : Dev nD) : Vec Ideal S1x128x192 .f32 :=
  shapeCast S1x128x192 (transpose S128x96x2 [1, 0, 2] (G6 m c) transposes_S96x128x2_S128x96x2_1_0_2) shapeCasts_S128x96x2_S1x128x192

theorem W_main_v4 (c : Dev nD) : Pipeline.afterTail₀ cfgs (dats m) 0 (V0 m) [hostOps1] c main_v4 = codes m c := by
  have e : Pipeline.withArrays (cfgs 0).spec c (V0 m c) (fun w => (dats m 0 c).arrAt w (cfgs 0).N) (Proc.tc.devRef main_v1_0) = G5 m c :=
    (Pipeline.withArrays_arr spec0 arrRef_inj c (V0 m c) (fun w => (dats m 0 c).arrAt w (cfgs 0).N) 5).trans (final5 m c)
  unfold Pipeline.afterTail₀
  simp only [hostOps1, List.flatten_cons, List.flatten_nil, List.append_nil, List.cons_append, List.nil_append, TRef.unary, TRef.toBuf, TRef.ofBuf, cast_eq]
  after_results_simp
  rw [e]
  rfl

theorem W_main_v3 (c : Dev nD) : Pipeline.afterTail₀ cfgs (dats m) 0 (V0 m) [hostOps1] c main_v3 = scales m c := by
  have e : Pipeline.withArrays (cfgs 0).spec c (V0 m c) (fun w => (dats m 0 c).arrAt w (cfgs 0).N) (Proc.tc.devRef main_v1_1) = G6 m c :=
    (Pipeline.withArrays_arr spec0 arrRef_inj c (V0 m c) (fun w => (dats m 0 c).arrAt w (cfgs 0).N) 6).trans (final6 m c)
  unfold Pipeline.afterTail₀
  simp only [hostOps1, List.flatten_cons, List.flatten_nil, List.append_nil, List.cons_append, List.nil_append, TRef.unary, TRef.toBuf, TRef.ofBuf, cast_eq]
  after_results_simp
  rw [e]
  rfl

theorem codes_apply (c : Dev nD) (r : Fin 128) (n : Fin 24576) :
    codes m c (ix3 (0 : Fin 1) r n) = code (A0 m c) (A1 m c) (A2 m c) (A3 m c) (A4 m c) r n :=
  shapeCast_apply (G5 m c) _ _ (ix2 r n) (by
    rw [Shape.rowMajor_val_three, Shape.rowMajor_val_two]
    show r.val * 24576 + n.val = (0 * 128 + r.val) * 24576 + n.val
    omega)

theorem scales_apply (c : Dev nD) (r : Fin 128) (b : Fin 192) :
    scales m c (ix3 (0 : Fin 1) r b) = scale (A0 m c) (A1 m c) (A2 m c) (A3 m c) (A4 m c) r b := by
  refine (shapeCast_apply _ _ _ (ix3 r (⟨b.val / 2, by omega⟩ : Fin 96) (⟨b.val % 2, by omega⟩ : Fin 2)) (by
    rw [Shape.rowMajor_val_three, Shape.rowMajor_val_three]
    show (r.val * 96 + b.val / 2) * 2 + b.val % 2 = (0 * 128 + r.val) * 192 + b.val
    omega)).trans ?_
  refine (transpose_apply _ (G6 m c) _ _ (ix3 (⟨b.val / 2, by omega⟩ : Fin 96) r (⟨b.val % 2, by omega⟩ : Fin 2)) (fun b => by
    match b with
    | ⟨0, _⟩ => rfl
    | ⟨1, _⟩ => rfl
    | ⟨2, _⟩ => rfl)).trans ?_
  refine congrArg (scale _ _ _ _ _ r) (Fin.ext ?_)
  show 2 * (b.val / 2) + b.val % 2 = b.val
  omega

/-- The run: both results, and the arguments as launched. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = codes m c
      ∧ r.2.mem ((c.tc : Thread nD τ).loc main_v3) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v4 (Pipeline.mem_restRefs_of main_v4 (by decide) (by decide))).trans (W_main_v4 m c),
      ((h.1 c).2 main_v3 (Pipeline.mem_restRefs_of main_v3 (by decide) (by decide))).trans (W_main_v3 m c), h.2 c⟩)
    (θ_run_and (Gen.run_main m ρ) (Gen.unchanged m ρ))

end Cert.KernelIdeal.Block

end
-- ==== Proof.RefRun.lean ====
/- What the reference's host operations leave in the two buffers its results come from: the clipped codes the cast reads,
   and the scales. -/
module

public import proofs.«01_k».proof.Proof.RefRead
public import Idealize.ShloMosaic.Lib.StableHlo.Run

@[expose] public section

set_option maxRecDepth 8192

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 44000000 in
/-- The scales as the region finds them. -/
theorem V_main_v63 (c : Dev nD) : Gen.V m c main_v63 = val_main_v63 (m ((c : Thread nD τ).loc main_arg0)) (m ((c : Thread nD τ).loc main_arg1))
    (m ((c : Thread nD τ).loc main_arg2)) (m ((c : Thread nD τ).loc main_arg3)) (m ((c : Thread nD τ).loc main_arg4)) := by
  show StableHlo.after _ _ _ = _
  simp only [hostOps0, hostOps0_1, hostOps0_2, hostOps0_3, hostOps0_4, hostOps0_5, hostOps0_6, hostOps0_7, List.flatten_cons, List.flatten_nil, List.append_nil, List.cons_append,
      List.nil_append, TRef.binary, TRef.nullary, TRef.ternary, TRef.unary, TRef.toBuf, TRef.ofBuf, cast_eq]
  after_results_simp <;> rfl

set_option maxHeartbeats 44000000 in
/-- The clipped codes, before their cast, as the region finds them. -/
theorem V_main_v70 (c : Dev nD) : Gen.V m c main_v70 = val_main_v70 (m ((c : Thread nD τ).loc main_arg0)) (m ((c : Thread nD τ).loc main_arg1))
    (m ((c : Thread nD τ).loc main_arg2)) (m ((c : Thread nD τ).loc main_arg3)) (m ((c : Thread nD τ).loc main_arg4)) := by
  show StableHlo.after _ _ _ = _
  simp only [hostOps0, hostOps0_1, hostOps0_2, hostOps0_3, hostOps0_4, hostOps0_5, hostOps0_6, hostOps0_7, List.flatten_cons, List.flatten_nil, List.append_nil, List.cons_append,
      List.nil_append, TRef.binary, TRef.nullary, TRef.ternary, TRef.unary, TRef.toBuf, TRef.ofBuf, cast_eq]
  after_results_simp <;> rfl

end Cert.ReferenceIdeal.Read

end
-- ==== Proof.RefFinal.lean ====
/- What the reference's two results hold after its run: the clipped codes, and the scales. -/
module

public import proofs.«01_k».proof.Proof.RefRun

@[expose] public section

set_option maxRecDepth 16384

noncomputable section

namespace Cert.ReferenceIdeal.Read

open Cert.ReferenceIdeal Cert.ReferenceIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- An array of exact numbers, read in the code's format. -/
def asCode (x : Vec Ideal S1x128x192x128 .f32) : Vec Ideal S1x128x192x128 .fp8e4m3 := x

/-- The clipped codes before the cast, from the launched arguments. -/
def preCodes (c : Dev nD) : Vec Ideal S1x128x192x128 .f32 := val_main_v70 (m ((c : Thread nD τ).loc main_arg0)) (m ((c : Thread nD τ).loc main_arg1))
    (m ((c : Thread nD τ).loc main_arg2)) (m ((c : Thread nD τ).loc main_arg3)) (m ((c : Thread nD τ).loc main_arg4))

/-- The cast's result: exact numbers pass it unchanged. -/
def castCodes (c : Dev nD) : Vec Ideal S1x128x192x128 .fp8e4m3 := asCode (preCodes m c)

theorem pay1_eq (x : Vec Ideal S1x128x192x128 .f32) (i : S1x128x192x128.Idx) : k0_pay1 (F := Ideal) x i = asCode x i := by
  unfold k0_pay1
  show shapeCast _ _ _ i = _
  rw [shapeCast_apply _ _ _ i rfl]
  rfl

theorem out0_1_apply (x0 : Vec Ideal S1x128x192x128 .f32) (y : S1x128x192x128.Idx) : out0_1 (F := Ideal) x0 y = asCode x0 y := by
  unfold out0_1
  refine View.canon_apply_of_pieces (Val := Elt Ideal) (asCode x0) [⟨r0_0, k0_pay1 (View.ld x0 r0_0)⟩] ?_ y (cover0_1 (k0_pay1 (View.ld x0 r0_0)) y)
  intro p hp i
  obtain rfl := List.mem_singleton.mp hp
  refine (pay1_eq _ i).trans ?_
  rfl

theorem idx0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)
theorem idx1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

theorem emb0 (t : Fin cfg0.N) (y : S1x128x192x128.Idx) : ((cfg0.win 0).blk t).view.emb y = (y : S1x128x192x128.Idx) := by
  obtain ⟨e0, e1, e2, e3⟩ := idx0 t
  funext a; apply Fin.ext
  match a with
  | ⟨0, _⟩ => show win0_0.index t (0 : Fin 4) * 1 + 1 * (y 0).val = (y 0).val; omega
  | ⟨1, _⟩ => show win0_0.index t (1 : Fin 4) * 128 + 1 * (y 1).val = (y 1).val; omega
  | ⟨2, _⟩ => show win0_0.index t (2 : Fin 4) * 192 + 1 * (y 2).val = (y 2).val; omega
  | ⟨3, _⟩ => show win0_0.index t (3 : Fin 4) * 128 + 1 * (y 3).val = (y 3).val; omega

theorem emb1 (t : Fin cfg0.N) (y : S1x128x192x128.Idx) : ((cfg0.win 1).blk t).view.emb y = (y : S1x128x192x128.Idx) := by
  obtain ⟨e0, e1, e2, e3⟩ := idx1 t
  funext a; apply Fin.ext
  match a with
  | ⟨0, _⟩ => show win0_1.index t (0 : Fin 4) * 1 + 1 * (y 0).val = (y 0).val; omega
  | ⟨1, _⟩ => show win0_1.index t (1 : Fin 4) * 128 + 1 * (y 1).val = (y 1).val; omega
  | ⟨2, _⟩ => show win0_1.index t (2 : Fin 4) * 192 + 1 * (y 2).val = (y 2).val; omega
  | ⟨3, _⟩ => show win0_1.index t (3 : Fin 4) * 128 + 1 * (y 3).val = (y 3).val; omega

theorem final1 (c : Dev nD) : (dats m 0 c).arrAt 1 cfg0.N = castCodes m c := by
  refine (dats m 0 c).arrAt_eq_of_cover 1 (castCodes m c) (fun t _ => ?_) ?_
  · show (cfg0.win 1).cut (grid0.coords t) ((dats m 0 c).after 1 t) = _
    rw [after0_1]
    funext y
    show out0_1 (F := Ideal) _ (fun a => ⟨(y a).val, _⟩) = castCodes m c (((cfg0.win 1).blk t).view.emb y)
    rw [emb1]
    refine (out0_1_apply _ _).trans ?_
    show V m c main_v70 (((cfg0.win 0).blk t).view.emb y) = _
    rw [emb0, V_main_v70]
    rfl
  · intro (i : S1x128x192x128.Idx)
    obtain ⟨t, ht⟩ : ∃ t : Fin cfg0.N, t.val = 0 := ⟨⟨0, by decide⟩, rfl⟩
    refine ⟨t, flush0_1 _, ?_⟩
    have h := ((cfg0.win 1).blk t).view.emb_mem_set i
    rwa [emb1] at h

theorem arrRef_inj : Function.Injective (Pipeline.arrRef spec0) := by decide

theorem W_main_v72 (c : Dev nD) : Pipeline.afterTail₀ cfgs (dats m) 0 (V0 m) [hostOps1] c main_v72
    = shapeCast S1x128x24576 (castCodes m c) shapeCasts_S1x128x192x128_S1x128x24576 := by
  have e : Pipeline.withArrays (cfgs 0).spec c (V0 m c) (fun w => (dats m 0 c).arrAt w (cfgs 0).N) (Proc.tc.devRef main_v71) = castCodes m c :=
    (Pipeline.withArrays_arr spec0 arrRef_inj c (V0 m c) (fun w => (dats m 0 c).arrAt w (cfgs 0).N) 1).trans (final1 m c)
  unfold Pipeline.afterTail₀
  simp only [hostOps1, List.flatten_cons, List.flatten_nil, List.append_nil, List.cons_append, List.nil_append, TRef.unary, TRef.toBuf, TRef.ofBuf, cast_eq]
  after_results_simp
  rw [e]
  rfl

theorem W_main_v63 (c : Dev nD) : Pipeline.afterTail₀ cfgs (dats m) 0 (V0 m) [hostOps1] c main_v63
    = val_main_v63 (m ((c : Thread nD τ).loc main_arg0)) (m ((c : Thread nD τ).loc main_arg1))
    (m ((c : Thread nD τ).loc main_arg2)) (m ((c : Thread nD τ).loc main_arg3)) (m ((c : Thread nD τ).loc main_arg4)) := by
  unfold Pipeline.afterTail₀
  simp only [hostOps1, List.flatten_cons, List.flatten_nil, List.append_nil, List.cons_append, List.nil_append, TRef.unary, TRef.toBuf, TRef.ofBuf, cast_eq]
  after_results_simp
  rw [Pipeline.withArrays_of_ne _ c (V0 m c) _ main_v63 (by exact (by decide : ∀ w, Pipeline.arrRef spec0 w ≠ main_v63))]
  exact V_main_v63 m c

/-- The run: both results, and the arguments as launched. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72) = shapeCast S1x128x24576 (castCodes m c) shapeCasts_S1x128x192x128_S1x128x24576
      ∧ r.2.mem ((c.tc : Thread nD τ).loc main_v63) = val_main_v63 (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v72 (Pipeline.mem_restRefs_of main_v72 (by decide) (by decide))).trans (W_main_v72 m c),
      ((h.1 c).2 main_v63 (Pipeline.mem_restRefs_of main_v63 (by decide) (by decide))).trans (W_main_v63 m c), h.2 c⟩)
    (θ_run_and (Gen.run_main m ρ) (Gen.unchanged m ρ))

end Cert.ReferenceIdeal.Read

end
-- ==== Proof.Value.lean ====
/- The two programs' results are one array each: for arguments the precondition admits, the reference's scales are the
   kernel's scales and its codes are the kernel's codes, at every index. -/
module

public import proofs.«01_k».proof.Proof.Bound
public import proofs.«01_k».proof.Proof.KArray
public import proofs.«01_k».proof.Proof.RefFinal

@[expose] public section

noncomputable section

namespace Cert.Value

open Idealize.ShloMosaic Idealize.ShloMosaic.ValueIdx Idealize.SL.Sem Cert.Gate Cert.Bound

variable (a0 : SX.Idx → EReal) (a1 : SW.Idx → BitVec 8) (a2 : SS.Idx → EReal) (a3 : SW.Idx → BitVec 8) (a4 : SS.Idx → EReal)

/-- At the largest magnitude of any block the two choices of the scale agree. -/
theorem block_agree (h0 : ∀ i, Within (a0 i) (2 ^ 25)) (h2 : ∀ i, Within (a2 i) (2 ^ 25)) (h4 : ∀ i, Within (a4 i) (2 ^ 25))
    (r : Fin 128) (b : Fin 192) :
    Ideal.pow ((2 : ℝ) : EReal) (Cert.ReferenceIdeal.Read.exponent (amax a0 a1 a2 a3 a4 r b))
        = Cert.Quant.scaleOf (amax a0 a1 a2 a3 a4 r b * Cert.KernelIdeal.Block.recip)
      ∧ Ideal.pow ((2 : ℝ) : EReal) (-(Cert.ReferenceIdeal.Read.exponent (amax a0 a1 a2 a3 a4 r b)))
        = Cert.Quant.invOf (amax a0 a1 a2 a3 a4 r b * Cert.KernelIdeal.Block.recip) := by
  obtain ⟨M, hM, hlo, hhi⟩ := rowMax_real (fun l => Gate.hid a0 a1 a2 a3 a4 r (col b l)) _
    (fun l => within_hid a0 a1 a2 a3 a4 h0 h2 h4 r (col b l))
  have e : amax a0 a1 a2 a3 a4 r b = (M : EReal) := hM
  rw [e]
  exact scales_agree M hlo hhi

theorem scale_agree (h0 : ∀ i, Within (a0 i) (2 ^ 25)) (h2 : ∀ i, Within (a2 i) (2 ^ 25)) (h4 : ∀ i, Within (a4 i) (2 ^ 25))
    (r : Fin 128) (b : Fin 192) :
    Cert.ReferenceIdeal.Read.val_main_v63 (F := Ideal) a0 a1 a2 a3 a4 (ix3 (0 : Fin 1) r b) = scale a0 a1 a2 a3 a4 r b :=
  (Cert.ReferenceIdeal.Read.v63_apply a0 a1 a2 a3 a4 r b).trans (block_agree a0 a1 a2 a3 a4 h0 h2 h4 r b).1

theorem code_agree (h0 : ∀ i, Within (a0 i) (2 ^ 25)) (h2 : ∀ i, Within (a2 i) (2 ^ 25)) (h4 : ∀ i, Within (a4 i) (2 ^ 25))
    (r : Fin 128) (n : Fin 24576) (b : Fin 192) (l : Fin 128) (hb : n.val / 128 = b.val) (hl : n.val % 128 = l.val) :
    Cert.ReferenceIdeal.Read.val_main_v70 (F := Ideal) a0 a1 a2 a3 a4 (ix4 (0 : Fin 1) r b l) = code a0 a1 a2 a3 a4 r n := by
  refine (Cert.ReferenceIdeal.Read.v70_apply a0 a1 a2 a3 a4 r b l).trans ?_
  rw [(block_agree a0 a1 a2 a3 a4 h0 h2 h4 r b).2]
  have ec : col b l = n := Fin.ext (by show 128 * b.val + l.val = n.val; omega)
  have eb : (⟨n.val / 128, by omega⟩ : Fin 192) = b := Fin.ext hb
  unfold code
  rw [ec, eb]

/-- Two arrays of rank three with one leading entry are equal once they agree at every row and column. -/
theorem ext3 {p q : ℕ} {β : Type} (f g : (⟨3, ![1, p, q]⟩ : Shape).Idx → β)
    (h : ∀ (r : Fin p) (k : Fin q), f (ix3 (0 : Fin 1) r k) = g (ix3 (0 : Fin 1) r k)) : f = g := by
  funext i
  have e : i = ix3 (0 : Fin 1) (i 1) (i 2) :=
    (eq_ix3 i).trans (congrArg (fun z : Fin 1 => ix3 z (i 1) (i 2)) (Subsingleton.elim (α := Fin 1) (i 0) (0 : Fin 1)))
  rw [e]
  exact h _ _

section Runs

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launches hold the same arguments on device `c`. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

open Cert.KernelIdeal.Block in
/-- The precondition on device `c`. -/
def Admits (c : Dev Cert.KernelIdeal.nD) : Prop :=
  Cert.Pre_moderate.fn (F := Ideal) (A0 m c) (A1 m c) (A2 m c) (A3 m c) (A4 m c) = fun _ => 1#1

theorem scales_eq (c : Dev Cert.KernelIdeal.nD) (hs : Same m m' c) (hp : Admits m c) :
    Cert.ReferenceIdeal.Read.val_main_v63
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      = Cert.KernelIdeal.Block.scales m c := by
  obtain ⟨e0, e1, e2, e3, e4⟩ := hs
  obtain ⟨h0, h2, h4⟩ := within_args _ _ _ _ _ hp
  rw [e0, e1, e2, e3, e4]
  refine ext3 _ _ fun r b => ?_
  exact (scale_agree _ _ _ _ _ h0 h2 h4 r b).trans (Cert.KernelIdeal.Block.scales_apply m c r b).symm

theorem codes_eq (c : Dev Cert.KernelIdeal.nD) (hs : Same m m' c) (hp : Admits m c) :
    shapeCast Cert.ReferenceIdeal.S1x128x24576 (Cert.ReferenceIdeal.Read.castCodes m' c)
      Cert.ReferenceIdeal.Gen.facts.shapeCasts_S1x128x192x128_S1x128x24576 = Cert.KernelIdeal.Block.codes m c := by
  obtain ⟨e0, e1, e2, e3, e4⟩ := hs
  obtain ⟨h0, h2, h4⟩ := within_args _ _ _ _ _ hp
  refine ext3 _ _ fun r n => ?_
  refine (shapeCast_apply _ _ _ (ix4 (0 : Fin 1) r (⟨n.val / 128, by omega⟩ : Fin 192) (⟨n.val % 128, by omega⟩ : Fin 128)) (by
    rw [Shape.rowMajor_val_three, Shape.rowMajor_val_four]
    show ((0 * 128 + r.val) * 192 + n.val / 128) * 128 + n.val % 128 = (0 * 128 + r.val) * 24576 + n.val
    omega)).trans ?_
  refine Eq.trans ?_ (Cert.KernelIdeal.Block.codes_apply m c r n).symm
  show Cert.ReferenceIdeal.Read.val_main_v70
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) _ = _
  rw [e0, e1, e2, e3, e4]
  exact code_agree _ _ _ _ _ h0 h2 h4 r n _ _ rfl rfl

/-- Both runs, side by side. -/
theorem algebraic (g : Dev Cert.KernelIdeal.nD → PrngReg) (g' : Dev Cert.ReferenceIdeal.nD → PrngReg)
    (hp : ∀ c, Admits m c) (hs : ∀ c, Same m m' c) :
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  ⟨Cert.KernelIdeal.Block.codes m, Cert.KernelIdeal.Block.scales m, Cert.KernelIdeal.Block.run_results m g,
    (θ_run _ _ _).mono (fun _ h c => ⟨(h c).1.trans (codes_eq m m' c (hs c) (hp c)), (h c).2.1.trans (scales_eq m m' c (hs c) (hp c)), (h c).2.2⟩)
      (Cert.ReferenceIdeal.Read.run_results m' g')⟩

end Runs

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_moderate
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_moderate.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  fun m g m' g' hp hs => Cert.Value.algebraic m m' g g' hp hs⟩

end Cert.Proof

end
